-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![8192, 2048]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 512]⟩ ⟨2, ![8192, 2048]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![2048, 2048]⟩ ⟨2, ![8192, 2048]⟩ (Layout.meshBlock [2, 2, 4] ![[2], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![8192, 512]⟩ ⟨2, ![8192, 2048]⟩ (Layout.meshBlock [2, 2, 4] ![[], [2]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2048x2048 : Shape := ⟨2, ![2048, 2048]⟩
abbrev S8192x512 : Shape := ⟨2, ![8192, 512]⟩
abbrev S4x2048x512 : Shape := ⟨3, ![4, 2048, 512]⟩
abbrev S4 : Shape := ⟨1, ![4]⟩
abbrev S1 : Shape := ⟨1, ![1]⟩
abbrev S_ : Shape := ⟨0, ![]⟩
abbrev S1x2048x512 : Shape := ⟨3, ![1, 2048, 512]⟩
abbrev S2048x512 : Shape := ⟨2, ![2048, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x2048, .f32⟩
  | .hbm, ⟨1, _⟩ => ⟨S8192x512, .bf16⟩
  | .local _ .vmem, ⟨0, _⟩ => ⟨S4x2048x512, .f32⟩
  | .local _ .vmem, ⟨1, _⟩ => ⟨S4x2048x512, .bf16⟩
  | _, _ => ⟨S2048x2048, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 16
abbrev τ : Topo := Topo.v7x

variable {F : FTy → Type} [FloatOps F]

abbrev grid0 : Pipeline.Grid := .none

def k0_off1 (d0 : Dev nD) (c3_i32 : BitVec 32) (c0_i32 : BitVec 32) : Fin 2 → Nat :=
  let c0_i32_10 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 1 := Scalar.cmpi .slt v8 c2_i32_2
  let v10 : BitVec 32 := Scalar.select v9 c3_i32 c0_i32
  let c512_i32 : BitVec 32 := 512#32
  let v15 : BitVec 32 := Scalar.muli v10 c512_i32
  ![0, v15.toNat]
def k0_off1_at (r : Fin 2) : BitVec 32 × BitVec 32 :=
  if r.val < 1 then
    (3#32, 0#32)
  else
    (2#32, 1#32)
def k0_off2 (d0 : Dev nD) : Fin 2 → Nat :=
  let c0_i32_22 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 1 := Scalar.cmpi .slt v8 c2_i32_2
  let c1_i32_5 : BitVec 32 := 1#32
  let v12 : BitVec 32 := Scalar.subi c1_i32_5 v8
  let c5_i32 : BitVec 32 := 5#32
  let v13 : BitVec 32 := Scalar.subi c5_i32 v8
  let v14 : BitVec 32 := Scalar.select v9 v12 v13
  let c512_i32_17 : BitVec 32 := 512#32
  let v27 : BitVec 32 := Scalar.muli v14 c512_i32_17
  ![0, v27.toNat]
def k0_off3 (d0 : Dev nD) : Fin 2 → Nat :=
  let c0_i32_28 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_23 : BitVec 32 := 512#32
  let v33 : BitVec 32 := Scalar.muli v8 c512_i32_23
  ![0, v33.toNat]
def k0_dev1 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v51 : BitVec 32 := Scalar.muli v2 c8_i32_37
  let v52 : BitVec 32 := Scalar.addi c0_i32_38 v51
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v53 : BitVec 32 := Scalar.muli v5 c4_i32_39
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v40 : BitVec 32 := Scalar.addi v8 c1_i32_29
  let c4_i32_30 : BitVec 32 := 4#32
  let c0_i32_31 : BitVec 32 := 0#32
  let v41 : BitVec 1 := Scalar.cmpi .eq c4_i32_30 c0_i32_31
  let c1_i32_32 : BitVec 32 := 1#32
  let v42 : BitVec 32 := Scalar.select v41 c1_i32_32 c4_i32_30
  let v43 : BitVec 32 := Scalar.remsi v40 v42
  let c0_i32_34 : BitVec 32 := 0#32
  let v45 : BitVec 1 := Scalar.cmpi .slt v43 c0_i32_34
  let c0_i32_35 : BitVec 32 := 0#32
  let v46 : BitVec 1 := Scalar.cmpi .slt v42 c0_i32_35
  let v47 : BitVec 1 := Scalar.xori v45 v46
  let c0_i32_33 : BitVec 32 := 0#32
  let v44 : BitVec 1 := Scalar.cmpi .ne v43 c0_i32_33
  let v48 : BitVec 1 := Scalar.andi v47 v44
  let v49 : BitVec 32 := Scalar.addi v43 v42
  let v50 : BitVec 32 := Scalar.select v48 v49 v43
  let c1_i32_40 : BitVec 32 := 1#32
  let v55 : BitVec 32 := Scalar.muli v50 c1_i32_40
  let v56 : BitVec 32 := Scalar.addi v54 v55
  v56.toNat
def k0_dev2 (d0 : Dev nD) : Nat :=
  let c0_i32_50 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_49 : BitVec 32 := 8#32
  let v68 : BitVec 32 := Scalar.muli v2 c8_i32_49
  let v69 : BitVec 32 := Scalar.addi c0_i32_50 v68
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_51 : BitVec 32 := 4#32
  let v70 : BitVec 32 := Scalar.muli v5 c4_i32_51
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_41 : BitVec 32 := 2#32
  let v57 : BitVec 32 := Scalar.addi v8 c2_i32_41
  let c4_i32_42 : BitVec 32 := 4#32
  let c0_i32_43 : BitVec 32 := 0#32
  let v58 : BitVec 1 := Scalar.cmpi .eq c4_i32_42 c0_i32_43
  let c1_i32_44 : BitVec 32 := 1#32
  let v59 : BitVec 32 := Scalar.select v58 c1_i32_44 c4_i32_42
  let v60 : BitVec 32 := Scalar.remsi v57 v59
  let c0_i32_46 : BitVec 32 := 0#32
  let v62 : BitVec 1 := Scalar.cmpi .slt v60 c0_i32_46
  let c0_i32_47 : BitVec 32 := 0#32
  let v63 : BitVec 1 := Scalar.cmpi .slt v59 c0_i32_47
  let v64 : BitVec 1 := Scalar.xori v62 v63
  let c0_i32_45 : BitVec 32 := 0#32
  let v61 : BitVec 1 := Scalar.cmpi .ne v60 c0_i32_45
  let v65 : BitVec 1 := Scalar.andi v64 v61
  let v66 : BitVec 32 := Scalar.addi v60 v59
  let v67 : BitVec 32 := Scalar.select v65 v66 v60
  let c1_i32_52 : BitVec 32 := 1#32
  let v72 : BitVec 32 := Scalar.muli v67 c1_i32_52
  let v73 : BitVec 32 := Scalar.addi v71 v72
  v73.toNat
def k0_dev3 (d0 : Dev nD) : Nat :=
  let c0_i32_62 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_61 : BitVec 32 := 8#32
  let v85 : BitVec 32 := Scalar.muli v2 c8_i32_61
  let v86 : BitVec 32 := Scalar.addi c0_i32_62 v85
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_63 : BitVec 32 := 4#32
  let v87 : BitVec 32 := Scalar.muli v5 c4_i32_63
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_53 : BitVec 32 := 3#32
  let v74 : BitVec 32 := Scalar.addi v8 c3_i32_53
  let c4_i32_54 : BitVec 32 := 4#32
  let c0_i32_55 : BitVec 32 := 0#32
  let v75 : BitVec 1 := Scalar.cmpi .eq c4_i32_54 c0_i32_55
  let c1_i32_56 : BitVec 32 := 1#32
  let v76 : BitVec 32 := Scalar.select v75 c1_i32_56 c4_i32_54
  let v77 : BitVec 32 := Scalar.remsi v74 v76
  let c0_i32_58 : BitVec 32 := 0#32
  let v79 : BitVec 1 := Scalar.cmpi .slt v77 c0_i32_58
  let c0_i32_59 : BitVec 32 := 0#32
  let v80 : BitVec 1 := Scalar.cmpi .slt v76 c0_i32_59
  let v81 : BitVec 1 := Scalar.xori v79 v80
  let c0_i32_57 : BitVec 32 := 0#32
  let v78 : BitVec 1 := Scalar.cmpi .ne v77 c0_i32_57
  let v82 : BitVec 1 := Scalar.andi v81 v78
  let v83 : BitVec 32 := Scalar.addi v77 v76
  let v84 : BitVec 32 := Scalar.select v82 v83 v77
  let c1_i32_64 : BitVec 32 := 1#32
  let v89 : BitVec 32 := Scalar.muli v84 c1_i32_64
  let v90 : BitVec 32 := Scalar.addi v88 v89
  v90.toNat
def k0_off4 (d0 : Dev nD) (c3_i32 : BitVec 32) (c0_i32 : BitVec 32) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 1 := Scalar.cmpi .slt v8 c2_i32_2
  let v10 : BitVec 32 := Scalar.select v9 c3_i32 c0_i32
  let v91 : BitVec 32 := Scalar.subi v10 v8
  let c4_i32_66 : BitVec 32 := 4#32
  let c0_i32_67 : BitVec 32 := 0#32
  let v92 : BitVec 1 := Scalar.cmpi .eq c4_i32_66 c0_i32_67
  let c1_i32_68 : BitVec 32 := 1#32
  let v93 : BitVec 32 := Scalar.select v92 c1_i32_68 c4_i32_66
  let v94 : BitVec 32 := Scalar.remsi v91 v93
  let c0_i32_70 : BitVec 32 := 0#32
  let v96 : BitVec 1 := Scalar.cmpi .slt v94 c0_i32_70
  let c0_i32_71 : BitVec 32 := 0#32
  let v97 : BitVec 1 := Scalar.cmpi .slt v93 c0_i32_71
  let v98 : BitVec 1 := Scalar.xori v96 v97
  let c0_i32_69 : BitVec 32 := 0#32
  let v95 : BitVec 1 := Scalar.cmpi .ne v94 c0_i32_69
  let v99 : BitVec 1 := Scalar.andi v98 v95
  let v100 : BitVec 32 := Scalar.addi v94 v93
  let v101 : BitVec 32 := Scalar.select v99 v100 v94
  ![v101.toNat]
def k0_off4_at (r : Fin 2) : BitVec 32 × BitVec 32 :=
  if r.val < 1 then
    (3#32, 0#32)
  else
    (2#32, 1#32)
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32 : BitVec 32 := 2048#32
  let v113 : BitVec 32 := Scalar.muli v8 c2048_i32
  let c0_i32_87 : BitVec 32 := 0#32
  ![v113.toNat, 0]
def k0_dev4 (d0 : Dev nD) : Nat :=
  let c0_i32_84 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_83 : BitVec 32 := 8#32
  let v114 : BitVec 32 := Scalar.muli v2 c8_i32_83
  let v115 : BitVec 32 := Scalar.addi c0_i32_84 v114
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_85 : BitVec 32 := 4#32
  let v116 : BitVec 32 := Scalar.muli v5 c4_i32_85
  let v117 : BitVec 32 := Scalar.addi v115 v116
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 1 := Scalar.cmpi .slt v8 c2_i32_2
  let c3_i32 : BitVec 32 := 3#32
  let c0_i32 : BitVec 32 := 0#32
  let v10 : BitVec 32 := Scalar.select v9 c3_i32 c0_i32
  let c1_i32_86 : BitVec 32 := 1#32
  let v118 : BitVec 32 := Scalar.muli v10 c1_i32_86
  let v119 : BitVec 32 := Scalar.addi v117 v118
  v119.toNat
def k0_dev5 (d0 : Dev nD) : Nat :=
  let c0_i32_109 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_108 : BitVec 32 := 8#32
  let v150 : BitVec 32 := Scalar.muli v2 c8_i32_108
  let v151 : BitVec 32 := Scalar.addi c0_i32_109 v150
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_110 : BitVec 32 := 4#32
  let v152 : BitVec 32 := Scalar.muli v5 c4_i32_110
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 1 := Scalar.cmpi .slt v8 c2_i32_2
  let c2_i32_3 : BitVec 32 := 2#32
  let c1_i32_4 : BitVec 32 := 1#32
  let v11 : BitVec 32 := Scalar.select v9 c2_i32_3 c1_i32_4
  let c1_i32_111 : BitVec 32 := 1#32
  let v154 : BitVec 32 := Scalar.muli v11 c1_i32_111
  let v155 : BitVec 32 := Scalar.addi v153 v154
  v155.toNat
def k0_off6 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 1 := Scalar.cmpi .slt v8 c2_i32_2
  let c1_i32_5 : BitVec 32 := 1#32
  let v12 : BitVec 32 := Scalar.subi c1_i32_5 v8
  let c5_i32 : BitVec 32 := 5#32
  let v13 : BitVec 32 := Scalar.subi c5_i32 v8
  let v14 : BitVec 32 := Scalar.select v9 v12 v13
  let v163 : BitVec 32 := Scalar.subi v14 v8
  let c4_i32_115 : BitVec 32 := 4#32
  let c0_i32_116 : BitVec 32 := 0#32
  let v164 : BitVec 1 := Scalar.cmpi .eq c4_i32_115 c0_i32_116
  let c1_i32_117 : BitVec 32 := 1#32
  let v165 : BitVec 32 := Scalar.select v164 c1_i32_117 c4_i32_115
  let v166 : BitVec 32 := Scalar.remsi v163 v165
  let c0_i32_119 : BitVec 32 := 0#32
  let v168 : BitVec 1 := Scalar.cmpi .slt v166 c0_i32_119
  let c0_i32_120 : BitVec 32 := 0#32
  let v169 : BitVec 1 := Scalar.cmpi .slt v165 c0_i32_120
  let v170 : BitVec 1 := Scalar.xori v168 v169
  let c0_i32_118 : BitVec 32 := 0#32
  let v167 : BitVec 1 := Scalar.cmpi .ne v166 c0_i32_118
  let v171 : BitVec 1 := Scalar.andi v170 v167
  let v172 : BitVec 32 := Scalar.addi v166 v165
  let v173 : BitVec 32 := Scalar.select v171 v172 v166
  ![v173.toNat]
def k0_dev6 (d0 : Dev nD) : Nat :=
  let c0_i32_134 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_133 : BitVec 32 := 8#32
  let v186 : BitVec 32 := Scalar.muli v2 c8_i32_133
  let v187 : BitVec 32 := Scalar.addi c0_i32_134 v186
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_135 : BitVec 32 := 4#32
  let v188 : BitVec 32 := Scalar.muli v5 c4_i32_135
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 1 := Scalar.cmpi .slt v8 c2_i32_2
  let c1_i32_5 : BitVec 32 := 1#32
  let v12 : BitVec 32 := Scalar.subi c1_i32_5 v8
  let c5_i32 : BitVec 32 := 5#32
  let v13 : BitVec 32 := Scalar.subi c5_i32 v8
  let v14 : BitVec 32 := Scalar.select v9 v12 v13
  let c1_i32_136 : BitVec 32 := 1#32
  let v190 : BitVec 32 := Scalar.muli v14 c1_i32_136
  let v191 : BitVec 32 := Scalar.addi v189 v190
  v191.toNat
def k0_off7 (d0 : Dev nD) (c1_i32_161 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v221 : BitVec 32 := Scalar.subi v8 c1_i32_161
  let c4_i32_162 : BitVec 32 := 4#32
  let c0_i32_163 : BitVec 32 := 0#32
  let v222 : BitVec 1 := Scalar.cmpi .eq c4_i32_162 c0_i32_163
  let c1_i32_164 : BitVec 32 := 1#32
  let v223 : BitVec 32 := Scalar.select v222 c1_i32_164 c4_i32_162
  let v224 : BitVec 32 := Scalar.remsi v221 v223
  let c0_i32_166 : BitVec 32 := 0#32
  let v226 : BitVec 1 := Scalar.cmpi .slt v224 c0_i32_166
  let c0_i32_167 : BitVec 32 := 0#32
  let v227 : BitVec 1 := Scalar.cmpi .slt v223 c0_i32_167
  let v228 : BitVec 1 := Scalar.xori v226 v227
  let c0_i32_165 : BitVec 32 := 0#32
  let v225 : BitVec 1 := Scalar.cmpi .ne v224 c0_i32_165
  let v229 : BitVec 1 := Scalar.andi v228 v225
  let v230 : BitVec 32 := Scalar.addi v224 v223
  let v231 : BitVec 32 := Scalar.select v229 v230 v224
  let c2048_i32_168 : BitVec 32 := 2048#32
  let v232 : BitVec 32 := Scalar.muli v231 c2048_i32_168
  let c0_i32_176 : BitVec 32 := 0#32
  ![v232.toNat, 0]
-- ==== Reference.lean ====
abbrev S8192x2048 : Shape := ⟨2, ![8192, 2048]⟩

abbrev nBuf : Space → Nat
  | .hbm => 2
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Mesh.lean ====
/-
# The places of the devices, and the pieces of the buffers

The mesh has sixteen devices in four groups of four; device `d` stands at place `d % 4` of its group. Every device
holds a `2048 × 2048` block of the argument, cut here in four column pieces, and ends with an `8192 × 512` block of the
result, cut here in four row pieces. Slot `s` of a device's two scratch buffers serves the column piece `col d s`:
slots 0, 1 and 2 go to the three other devices of the group, slot 3 stays.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Transpose

open Cert.KernelIdeal Cert.KernelIdeal.Gen

open Idealize.ShloMosaic
open Idealize.ShloMosaic.TcCoe
open Idealize.SL Idealize.SL.Sem

/-! ## Places -/

set_option backward.proofsInPublic true in
/-- A device's place in its group. -/
def zc (d : Dev nD) : Fin 4 := ⟨d.val % 4, Nat.mod_lt _ (by decide)⟩

set_option backward.proofsInPublic true in
/-- The device `k + 1` places further in the same group, cyclically. -/
def peer (k : Fin 3) (d : Dev nD) : Dev nD :=
  ⟨d.val / 4 * 4 + (d.val + k.val + 1) % 4, by have h := d.isLt; simp only [nD] at h ⊢; omega⟩

theorem peer_rev (k : Fin 3) (d : Dev nD) : peer k.rev (peer k d) = d := by revert k d; decide
theorem rev_peer (k : Fin 3) (d : Dev nD) : peer k (peer k.rev d) = d := by revert k d; decide

/-- Going `k + 1` places further permutes the devices. -/
def shift (k : Fin 3) : Dev nD ≃ Dev nD := ⟨peer k, peer k.rev, peer_rev k, rev_peer k⟩

theorem peer_inj {k : Fin 3} {a b : Dev nD} (h : peer k a = peer k b) : a = b := (shift k).injective h

/-- How far slot `s` of device `d` travels, less one. -/
def hop (d : Dev nD) : Fin 3 → Fin 3 := match zc d with
  | 0 => ![2, 1, 0] | 1 => ![1, 0, 2] | 2 => ![1, 2, 0] | 3 => ![0, 1, 2]
/-- The slot that travels `k + 1` places. -/
def slotOf (d : Dev nD) : Fin 3 → Fin 3 := match zc d with
  | 0 => ![2, 1, 0] | 1 => ![1, 0, 2] | 2 => ![2, 0, 1] | 3 => ![0, 1, 2]

theorem slotOf_hop (d : Dev nD) (s : Fin 3) : slotOf d (hop d s) = s := by revert d s; decide
theorem hop_slotOf (d : Dev nD) (k : Fin 3) : hop d (slotOf d k) = k := by revert d k; decide

/-- The three travelling slots against the three distances. -/
def hops (d : Dev nD) : Fin 3 ≃ Fin 3 := ⟨hop d, slotOf d, slotOf_hop d, hop_slotOf d⟩

/-- The column piece slot `s` of device `d` carries. -/
def col (d : Dev nD) : Fin 4 → Fin 4 := match zc d with
  | 0 => ![3, 2, 1, 0] | 1 => ![3, 2, 0, 1] | 2 => ![0, 1, 3, 2] | 3 => ![0, 1, 2, 3]
/-- The slot carrying column piece `j`. -/
def colInv (d : Dev nD) : Fin 4 → Fin 4 := match zc d with
  | 0 => ![3, 2, 1, 0] | 1 => ![2, 3, 1, 0] | 2 => ![0, 1, 3, 2] | 3 => ![0, 1, 2, 3]

theorem colInv_col (d : Dev nD) (s : Fin 4) : colInv d (col d s) = s := by revert d s; decide
theorem col_colInv (d : Dev nD) (j : Fin 4) : col d (colInv d j) = j := by revert d j; decide

/-- The four slots against the four column pieces. -/
def cols (d : Dev nD) : Fin 4 ≃ Fin 4 := ⟨col d, colInv d, colInv_col d, col_colInv d⟩

/-- A travelling slot's column piece is the place it travels to. -/
theorem zc_peer_hop (d : Dev nD) (s : Fin 3) : zc (peer (hop d s) d) = col d s.castSucc := by revert d s; decide
/-- The last slot's is the device's own. -/
theorem col_last (d : Dev nD) : col d 3 = zc d := by revert d; decide
/-- The places of a device's group: its own, and the three others. -/
def around (d : Dev nD) : Fin 4 → Fin 4 := ![zc d, zc (peer 0 d), zc (peer 1 d), zc (peer 2 d)]
def aroundInv (d : Dev nD) : Fin 4 → Fin 4 := fun r => ⟨(r.val + 4 - (zc d).val) % 4, Nat.mod_lt _ (by decide)⟩
theorem aroundInv_around (d : Dev nD) (s : Fin 4) : aroundInv d (around d s) = s := by revert d s; decide
theorem around_aroundInv (d : Dev nD) (s : Fin 4) : around d (aroundInv d s) = s := by revert d s; decide
def arounds (d : Dev nD) : Fin 4 ≃ Fin 4 := ⟨around d, aroundInv d, aroundInv_around d, around_aroundInv d⟩

/-! ## The devices the kernel names -/

theorem dev1_eq (d : Dev nD) : (⟨k0_dev1 d, k0_dev1_lt d⟩ : Dev nD) = peer 0 d := Fin.ext (by revert d; decide +kernel)
theorem dev2_eq (d : Dev nD) : (⟨k0_dev2 d, k0_dev2_lt d⟩ : Dev nD) = peer 1 d := Fin.ext (by revert d; decide +kernel)
theorem dev3_eq (d : Dev nD) : (⟨k0_dev3 d, k0_dev3_lt d⟩ : Dev nD) = peer 2 d := Fin.ext (by revert d; decide +kernel)
theorem dev4_eq (d : Dev nD) : (⟨k0_dev4 d, k0_dev4_lt d⟩ : Dev nD) = peer (hop d 0) d := Fin.ext (by revert d; decide +kernel)
theorem dev5_eq (d : Dev nD) : (⟨k0_dev5 d, k0_dev5_lt d⟩ : Dev nD) = peer (hop d 1) d := Fin.ext (by revert d; decide +kernel)
theorem dev6_eq (d : Dev nD) : (⟨k0_dev6 d, k0_dev6_lt d⟩ : Dev nD) = peer (hop d 2) d := Fin.ext (by revert d; decide +kernel)

/-! ## The pieces -/

theorem xIn (j : Fin 4) : ∀ a, (![0, 512 * j.val] : Fin 2 → Nat) a + S2048x512.size a ≤ S2048x2048.size a := by revert j; decide
theorem oIn (r : Fin 4) : ∀ a, (![2048 * r.val, 0] : Fin 2 → Nat) a + S2048x512.size a ≤ S8192x512.size a := by revert r; decide
theorem sIn (s : Fin 4) : ∀ a, (![s.val, 0, 0] : Fin 3 → Nat) a + S1x2048x512.size a ≤ S4x2048x512.size a := by revert s; decide

abbrev xR (j : Fin 4) : Rect S2048x2048 := Rect.unit (s := S2048x2048) ![0, 512 * j.val] S2048x512.size (xIn j)
abbrev oR (r : Fin 4) : Rect S8192x512 := Rect.unit (s := S8192x512) ![2048 * r.val, 0] S2048x512.size (oIn r)
abbrev sR (s : Fin 4) : Rect S4x2048x512 := Rect.unit (s := S4x2048x512) ![s.val, 0, 0] S1x2048x512.size (sIn s)

/-- Column piece `j` of the argument. -/
abbrev xB (j : Fin 4) : Memref sig .tc .hbm S2048x512 .f32 := (Memref.whole main_arg0).slice (xR j) (fun _ => rfl)
/-- Row piece `r` of the result. -/
abbrev oB (r : Fin 4) : Memref sig .tc .hbm S2048x512 .bf16 := (Memref.whole main_v1).slice (oR r) (fun _ => rfl)
/-- Slot `s` of the wide scratch buffer, as a matrix. -/
abbrev vB (s : Fin 4) : Memref sig .tc .vmem S2048x512 .f32 :=
  ((Memref.whole cc0_scratch0).slice (sR s) (fun _ => rfl)).squeeze S2048x512 squeezes_S1x2048x512_S2048x512
/-- Slot `s` of the narrow scratch buffer, as a matrix. -/
abbrev bB (s : Fin 4) : Memref sig .tc .vmem S2048x512 .bf16 :=
  ((Memref.whole cc0_scratch1).slice (sR s) (fun _ => rfl)).squeeze S2048x512 squeezes_S1x2048x512_S2048x512

/-- The pieces at offsets computed otherwise. -/
theorem xB_of {off : Fin 2 → Nat} {j : Fin 4} (h : off = ![0, 512 * j.val]) (p : ∀ a, off a + S2048x512.size a ≤ S2048x2048.size a)
    (hu : ∀ a, (Rect.unit (s := S2048x2048) off S2048x512.size p).stride a = 1) :
    (Memref.whole main_arg0).slice (Rect.unit (s := S2048x2048) off S2048x512.size p) hu = xB j := by subst h; rfl
theorem oB_of {off : Fin 2 → Nat} {r : Fin 4} (h : off = ![2048 * r.val, 0]) (p : ∀ a, off a + S2048x512.size a ≤ S8192x512.size a)
    (hu : ∀ a, (Rect.unit (s := S8192x512) off S2048x512.size p).stride a = 1) :
    (Memref.whole main_v1).slice (Rect.unit (s := S8192x512) off S2048x512.size p) hu = oB r := by subst h; rfl

theorem off1a (d : Dev nD) : k0_off1 d 3#32 0#32 = ![0, 512 * (col d 0).val] := by revert d; decide +kernel
theorem off1b (d : Dev nD) : k0_off1 d 2#32 1#32 = ![0, 512 * (col d 1).val] := by revert d; decide +kernel
theorem off2 (d : Dev nD) : k0_off2 d = ![0, 512 * (col d 2).val] := by revert d; decide +kernel
theorem off3 (d : Dev nD) : k0_off3 d = ![0, 512 * (col d 3).val] := by revert d; decide +kernel
theorem off5 (d : Dev nD) : k0_off5 d = ![2048 * (zc d).val, 0] := by revert d; decide +kernel
theorem off4a (d : Dev nD) : k0_off4 d 3#32 0#32 = ![(hop d 0).val + 1] := by revert d; decide +kernel
theorem off4b (d : Dev nD) : k0_off4 d 2#32 1#32 = ![(hop d 1).val + 1] := by revert d; decide +kernel
theorem off6 (d : Dev nD) : k0_off6 d = ![(hop d 2).val + 1] := by revert d; decide +kernel

/-! ## The semaphores -/

/-- The semaphores of the local copies, of the departures and of the arrivals. -/
abbrev cpS (s : Fin 4) : DmaSem sig := ⟨s.val, by have := s.isLt; show s.val < 12; omega⟩
abbrev seS (k : Fin 3) : DmaSem sig := ⟨4 + (k.val + 1), by have := k.isLt; show 4 + (k.val + 1) < 12; omega⟩
abbrev reS (k : Fin 3) : DmaSem sig := ⟨8 + (k.val + 1), by have := k.isLt; show 8 + (k.val + 1) < 12; omega⟩
abbrev barS : Sem sig := (SemArray.scalar (sig.barrier 0 rfl) : Sems sig S_).sem

theorem semIn (s : Fin 4) : ∀ a, (![s.val] : Fin 1 → Nat) a + S1.size a ≤ S4.size a := by revert s; decide

theorem cp_of {off : Fin 1 → Nat} {s : Fin 4} (h : off = ![s.val]) (p : ∀ a, off a + S1.size a ≤ S4.size a) :
    ((cc0_scratch2.slice (Rect.unit (s := S4) off S1.size p)).squeeze S_ squeezes_S1_S_).sem = cpS s := by
  subst h; revert s; decide +kernel
theorem se_of {off : Fin 1 → Nat} {k : Fin 3} (h : off = ![k.val + 1]) (p : ∀ a, off a + S1.size a ≤ S4.size a) :
    ((cc0_scratch3.slice (Rect.unit (s := S4) off S1.size p)).squeeze S_ squeezes_S1_S_).sem = seS k := by
  subst h; revert k; decide +kernel
theorem re_of {off : Fin 1 → Nat} {k : Fin 3} (h : off = ![k.val + 1]) (p : ∀ a, off a + S1.size a ≤ S4.size a) :
    ((cc0_scratch4.slice (Rect.unit (s := S4) off S1.size p)).squeeze S_ squeezes_S1_S_).sem = reS k := by
  subst h; revert k; decide +kernel

/-! ## How much a transfer of a piece counts -/

@[irreducible] def NB : ℕ := (oB 0).view.dmaCredit
@[irreducible] def NX : ℕ := (vB 0).view.dmaCredit
theorem NB_pos : 0 < NB := by unfold NB; exact View.dmaCredit_pos _ (by decide)
theorem NX_pos : 0 < NX := by unfold NX; exact View.dmaCredit_pos _ (by decide)
theorem credit_oB (r : Fin 4) : (oB r).view.dmaCredit = NB := by unfold NB; rfl
theorem credit_bB (s : Fin 4) : (bB s).view.dmaCredit = NB := by unfold NB; rfl
theorem credit_vB (s : Fin 4) : (vB s).view.dmaCredit = NX := by unfold NX; rfl

end Cert.Transpose

end
-- ==== Proof.Sched.lean ====
/-
# What the devices tell each other

Every device has seven semaphores through which others reach it: the barrier semaphore, three for the departure of its
own pieces and three for the arrival of the others'. Each is used for one round.

* The barrier semaphore of `c` gets one unit from each of the three other devices of the group; the unit of device
  `peer k.rev c` hands `c` that device's row piece number `zc c`, into which `c` will copy.
* The arrival semaphore number `k` of `c` gets the credit of one piece, paid by the copy of `peer k.rev c`; it hands
  `c` its own row piece of that device's place, now holding that device's piece of the argument, rounded.
* The departure semaphore number `k` of `c` gets the credit of one piece, paid by the copy to `peer k c`; it hands `c`
  back the slot the piece was read from.
-/
module

public import proofs.«01_k».proof.Proof.Mesh

@[expose] public section

noncomputable section

namespace Cert.Transpose

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's rounds, the devices' rounds, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The devices' rounds. -/
def ER : Emb UB (MT nD τ sig Unit (Elt F) ℕ UU ℕ) := (Emb.inl : Emb UB (UB × Counters)).trans embR
instance ER_lands : (ER : Emb UB 𝕄).LandsIn (upEmb : UEmb _ 𝕄) := by unfold ER; infer_instance
/-- The local copies' counters. -/
abbrev EC : UEmb Counters (MT nD τ sig Unit (Elt F) ℕ UU ℕ) := countersEmb

variable (m : (ℓ : Loc nD τ sig) → Buf (Elt F) ℓ) (ρ : Dev nD → PrngReg)

/-- The memory at launch. -/
def s₀ : MemSt nD τ sig (Elt F) := ⟨m, fun _ => 0, ρ⟩

/-! ## Cells -/

abbrev barCell (c : Dev nD) : GSem nD τ sig := ((c : Thread nD τ), .reg barS)
abbrev seCell (c : Dev nD) (k : Fin 3) : GSem nD τ sig := ((c : Thread nD τ), .dma (seS k))
abbrev reCell (c : Dev nD) (k : Fin 3) : GSem nD τ sig := ((c : Thread nD τ), .dma (reS k))

/-- What a semaphore is for. -/
inductive Role where
  | bar | dep (k : Fin 3) | arr (k : Fin 3) | own

/-- The purpose of each semaphore. -/
def role : SemLoc sig → Role
  | .reg _ => .bar
  | .dma q => (![.own, .own, .own, .own, .own, .dep 0, .dep 1, .dep 2, .own, .arr 0, .arr 1, .arr 2] : Fin 12 → Role) q

theorem role_bar : role (.reg barS) = .bar := rfl
theorem role_se (k : Fin 3) : role (.dma (seS k)) = .dep k := by fin_cases k <;> rfl
theorem role_re (k : Fin 3) : role (.dma (reS k)) = .arr k := by fin_cases k <;> rfl
theorem role_cp (s : Fin 4) : role (.dma (cpS s)) = .own := by fin_cases s <;> rfl

/-- The seven shared semaphores of a device in a row. -/
abbrev csem : Fin 7 → SemLoc sig :=
  ![.reg barS, .dma (seS 0), .dma (seS 1), .dma (seS 2), .dma (reS 0), .dma (reS 1), .dma (reS 2)]
abbrev kcell (ci : Dev nD × Fin 7) : GSem nD τ sig := ((ci.1 : Thread nD τ), csem ci.2)
abbrev seIx (k : Fin 3) : Fin 7 := ⟨k.val + 1, by have := k.isLt; omega⟩
abbrev reIx (k : Fin 3) : Fin 7 := ⟨k.val + 4, by have := k.isLt; omega⟩
theorem kcell_bar (c : Dev nD) : kcell (c, 0) = barCell c := rfl
theorem kcell_se (c : Dev nD) (k : Fin 3) : kcell (c, seIx k) = seCell c k := by fin_cases k <;> rfl
theorem kcell_re (c : Dev nD) (k : Fin 3) : kcell (c, reIx k) = reCell c k := by fin_cases k <;> rfl

/-! ## Contents -/

/-- Column piece `j` of device `c`'s block of the argument. -/
def xPiece (c : Dev nD) (j : Fin 4) : FVec F S2048x512 .f32 :=
  (xB j).view.read (Elt F) (m ((c : Thread nD τ).loc main_arg0))
/-- The same, rounded to the result's type. -/
def piece (c : Dev nD) (j : Fin 4) : FVec F S2048x512 .bf16 := truncf .bf16 (xPiece m c j) bitsLt_bf16_f32

/-- Column piece `j` of the argument of `c`, held at its launch contents. -/
def xPts (c : Dev nD) (j : Fin 4) : sProp 𝕄 :=
  (xB j).view.loc (c : Thread nD τ) ↦[(xB j).view.set]{fullShare} m ((c : Thread nD τ).loc main_arg0)
/-- Row piece `r` of the result of `c`, held at any contents. -/
def oAny (c : Dev nD) (r : Fin 4) : sProp 𝕄 :=
  iprop(∃ f, (oB r).view.loc (c : Thread nD τ) ↦[(oB r).view.set]{fullShare} f)
/-- A slot of the wide scratch buffer of `c`, at any contents. -/
def vAny (c : Dev nD) (s : Fin 4) : sProp 𝕄 :=
  iprop(∃ f, (vB s).view.loc (c : Thread nD τ) ↦[(vB s).view.set]{fullShare} f)
/-- A slot of the narrow scratch buffer of `c`, at any contents. -/
def bAny (c : Dev nD) (s : Fin 4) : sProp 𝕄 :=
  iprop(∃ f, (bB s).view.loc (c : Thread nD τ) ↦[(bB s).view.set]{fullShare} f)
/-- Row piece `r` of the result of `c`, holding `X`. -/
def oHas (c : Dev nD) (r : Fin 4) (X : S2048x512.Idx → Elt F .bf16) : sProp 𝕄 := owns (c : Thread nD τ) (oB r) fullShare X
/-- A slot of the narrow scratch buffer of `c`, holding `X`. -/
def bHas (c : Dev nD) (s : Fin 4) (X : S2048x512.Idx → Elt F .bf16) : sProp 𝕄 := owns (c : Thread nD τ) (bB s) fullShare X
/-- A slot of the wide scratch buffer of `c`, holding `X`. -/
def vHas (c : Dev nD) (s : Fin 4) (X : S2048x512.Idx → Elt F .f32) : sProp 𝕄 := owns (c : Thread nD τ) (vB s) fullShare X

omit [FloatOps F] in
instance oAny_storable (c : Dev nD) (r : Fin 4) : BI.Storable (upEmb : UEmb _ 𝕄) (oAny (F := F) c r) := by unfold oAny; infer_instance
omit [FloatOps F] in
instance bAny_storable (c : Dev nD) (s : Fin 4) : BI.Storable (upEmb : UEmb _ 𝕄) (bAny (F := F) c s) := by unfold bAny; infer_instance
omit [FloatOps F] in
instance oHas_storable (c : Dev nD) (r : Fin 4) (X) : BI.Storable (upEmb : UEmb _ 𝕄) (oHas (F := F) c r X) := by unfold oHas; infer_instance

/-! ## The schedule -/

/-- What the barrier unit of `peer k.rev c` hands `c`. -/
def barPay (c : Dev nD) (k : Fin 3) : sProp 𝕄 := oAny (peer k.rev c) (zc c)
/-- What the arrival from `peer k.rev c` hands `c`. -/
def arrPay (c : Dev nD) (k : Fin 3) : sProp 𝕄 := oHas c (zc (peer k.rev c)) (piece m (peer k.rev c) (zc c))
/-- What the departure to `peer k c` hands back to `c`. -/
def depPay (c : Dev nD) (k : Fin 3) : sProp 𝕄 := bAny c (slotOf c k).castSucc

/-- What a duty hands over, by the semaphore's purpose. -/
def pay (c : Dev nD) (d : Fin 3) : Role → sProp 𝕄
  | .bar => barPay c d
  | .dep k => depPay c k
  | .arr k => arrPay m c k
  | .own => iprop(emp)

def dutiesOf : Role → Finset (Fin 3)
  | .bar => Finset.univ
  | .dep _ | .arr _ => {0}
  | .own => ∅
def amountOf' : Role → ℕ
  | .bar => 1
  | .dep _ | .arr _ => NB
  | .own => 1

/-- One round on every shared semaphore. -/
def sched : Rounds.Schedule (GSem nD τ sig) (Fin 3) 𝕄 where
  duties g r := if r = 0 then dutiesOf (role g.2) else ∅
  unitless _ := False
  amount g _ _ := amountOf' (role g.2)
  payload g _ d := pay m g.1.1 d (role g.2)
  amount_pos g _ _ _ := by
    show 0 < amountOf' (role g.2)
    match role g.2 with
    | .bar | .own => exact Nat.one_pos
    | .dep _ | .arr _ => exact NB_pos

instance sched_storable (g : GSem nD τ sig) (r : ℕ) (d : Fin 3) :
    BI.Storable (upEmb : UEmb _ 𝕄) ((sched (F := F) m).payload g r d) := by
  show BI.Storable upEmb (pay m g.1.1 d (role g.2))
  match role g.2 with
  | .bar => dsimp only [pay]; unfold barPay; infer_instance
  | .dep _ => dsimp only [pay]; unfold depPay; infer_instance
  | .arr _ => dsimp only [pay]; unfold arrPay; infer_instance
  | .own => dsimp only [pay]; infer_instance

section Tables
variable (c : Dev nD) (k d : Fin 3)

theorem duties_bar : (sched m).duties (barCell c) 0 = Finset.univ := rfl
theorem duties_se : (sched m).duties (seCell c k) 0 = {0} := by dsimp only [sched]; rw [role_se]; rfl
theorem duties_re : (sched m).duties (reCell c k) 0 = {0} := by dsimp only [sched]; rw [role_re]; rfl
theorem duties_later (g : GSem nD τ sig) : ∀ r, 1 ≤ r → (sched m).duties g r = ∅ := fun r hr => if_neg (by omega)

theorem amount_bar : (sched m).amount (barCell c) 0 d = 1 := rfl
theorem amount_se : (sched m).amount (seCell c k) 0 d = NB := by dsimp only [sched]; rw [role_se]; rfl
theorem amount_re : (sched m).amount (reCell c k) 0 d = NB := by dsimp only [sched]; rw [role_re]; rfl

theorem payload_bar : (sched m).payload (barCell c) 0 d = barPay c d := rfl
theorem payload_se : (sched m).payload (seCell c k) 0 d = depPay c k := by dsimp only [sched]; rw [role_se]; rfl
theorem payload_re : (sched m).payload (reCell c k) 0 d = arrPay m c k := by dsimp only [sched]; rw [role_re]; rfl

theorem expect_bar : (sched m).expect (barCell c) 0 = 3 := by
  unfold Schedule.expect Schedule.amountOf
  rw [duties_bar, Finset.sum_congr rfl fun d _ => amount_bar m c d]; rfl
theorem expect_se : (sched m).expect (seCell c k) 0 = NB := by
  unfold Schedule.expect Schedule.amountOf; rw [duties_se, Finset.sum_singleton, amount_se]
theorem expect_re : (sched m).expect (reCell c k) 0 = NB := by
  unfold Schedule.expect Schedule.amountOf; rw [duties_re, Finset.sum_singleton, amount_re]

/-- All a barrier round hands over: the other devices' row pieces of `c`'s place, by how far they stand. -/
theorem rest_bar : bigSep ((sched m).duties (barCell c) 0 \ ∅) (fun d => (sched m).payload (barCell c) 0 d)
    = bigSep Finset.univ fun k : Fin 3 => (oAny (peer k c) (zc c) : sProp 𝕄) := by
  rw [Finset.sdiff_empty, duties_bar, bigSep_univ_equiv Fin.revPerm (fun d : Fin 3 => (sched m).payload (barCell c) 0 d)]
  refine bigSep_congr fun k _ => ?_
  show barPay c k.rev = _
  unfold barPay; rw [Fin.rev_rev]
theorem rest_se : bigSep ((sched m).duties (seCell c k) 0 \ ∅) (fun d => (sched m).payload (seCell c k) 0 d) = depPay c k := by
  rw [Finset.sdiff_empty, duties_se, bigSep_singleton, payload_se]
theorem rest_re : bigSep ((sched m).duties (reCell c k) 0 \ ∅) (fun d => (sched m).payload (reCell c k) 0 d) = arrPay m c k := by
  rw [Finset.sdiff_empty, duties_re, bigSep_singleton, payload_re]

end Tables

/-! ## Debts and levels -/

/-- The credit of one piece that `c` owes for slot `s`. -/
def rt (c : Dev nD) (s : Fin 3) : CellTallies nD τ sig Unit := tallyAt (reCell (peer (hop c s) c) (hop c s)) () NB
/-- The unit that `c` owes the device `k + 1` places on. -/
def bt (c : Dev nD) (k : Fin 3) : CellTallies nD τ sig Unit := tallyAt (barCell (peer k c)) () 1

/-- What `c` owes: before the third copy, before the second, before the first; before the third unit, the second, the first. -/
def D₂ (c : Dev nD) : CellTallies nD τ sig Unit := 0 + rt c 2
def D₁ (c : Dev nD) : CellTallies nD τ sig Unit := D₂ c + rt c 1
def D₀ (c : Dev nD) : CellTallies nD τ sig Unit := D₁ c + rt c 0
def B₂ (c : Dev nD) : CellTallies nD τ sig Unit := D₀ c + bt c 2
def B₁ (c : Dev nD) : CellTallies nD τ sig Unit := B₂ c + bt c 1
def O₀ (c : Dev nD) : CellTallies nD τ sig Unit := B₁ c + bt c 0

def L (g : GSem nD τ sig) : Finset Unit := if g.1.2 = .tc then {()} else ∅
def lvOf : Role → ℕ
  | .bar => 1
  | .arr _ => 2
  | .dep _ | .own => 0
/-- Barrier semaphores stand at 1, arrivals at 2, the rest at 0. -/
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

/-- Everything in `O` is owed to a cell above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (sm : SemLoc sig) (a : ℕ) (h : n < lvOf (role sm)) :
    Above n (tallyAt ((c : Thread nD τ), sm) () a) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)

theorem above_rt {n : ℕ} (hn : n < 2) (c : Dev nD) (s : Fin 3) : Above n (rt c s) :=
  above_tally _ _ _ (by rw [role_re]; exact hn)
theorem above_bt (c : Dev nD) (k : Fin 3) : Above 0 (bt c k) := above_tally _ _ _ Nat.one_pos
theorem above_D₂ {n : ℕ} (hn : n < 2) (c : Dev nD) : Above n (D₂ c) := above_add (above_zero n) (above_rt hn c 2)
theorem above_D₁ {n : ℕ} (hn : n < 2) (c : Dev nD) : Above n (D₁ c) := above_add (above_D₂ hn c) (above_rt hn c 1)
theorem above_D₀ {n : ℕ} (hn : n < 2) (c : Dev nD) : Above n (D₀ c) := above_add (above_D₁ hn c) (above_rt hn c 0)
theorem above_O₀ (c : Dev nD) : Above 0 (O₀ c) :=
  above_add (above_add (above_add (above_D₀ (by decide) c) (above_bt c 2)) (above_bt c 1)) (above_bt c 0)

omit [FloatOps F] in
/-- A wait on a semaphore is allowed while everything owed stands above it. -/
theorem mayWait (c : Dev nD) (sm : SemLoc sig) (O : CellTallies nD τ sig Unit) (hO : Above (lvOf (role sm)) O) :
    (levAts L lv : sProp 𝕄) ⊢ MayWait (c : Thread nD τ) sm () O :=
  MayOwe.of_cut (L := L) (lev := lv) (lvOf (role sm))
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => (hO g u hg).2)

end Cert.Transpose

end
-- ==== Proof.Steps.lean ====
/-
# The kernel's steps

One lemma per kind of step of the kernel: a column piece of the argument copied in, a slot rounded, a slot sent to
another device, the last slot copied out, an arrival and a departure waited for. Each is stated at a device and a slot,
and takes the operands as the program writes them beside the equation that says which piece or semaphore they are.
-/
module

public import proofs.«01_k».proof.Proof.Sched

@[expose] public section

noncomputable section

namespace Cert.Transpose

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p` and ends in `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def debt (c : Dev nD) (O : CellTallies nD τ sig Unit) : sProp 𝕄 := iprop(∃ W, owes (c : Thread nD τ) O W)

/-! ## What is known of all cells -/

/-- The shared cells' invariants, under the names `K`, and that each has reached its round. -/
def records (K : Dev nD × Fin 7 → ℕ) : sProp 𝕄 :=
  iprop((bigSep Finset.univ fun ci : Dev nD × Fin 7 => cellInv ER (sched m) (K ci) (kcell ci))
    ∗ bigSep Finset.univ fun ci : Dev nD × Fin 7 => reached ER (kcell ci) 0)

instance records_persistent (K : Dev nD × Fin 7 → ℕ) : BI.Persistent (records m K) := by unfold records; infer_instance

theorem records_at (K : Dev nD × Fin 7 → ℕ) (ci : Dev nD × Fin 7) :
    records m K ⊢ iprop(cellInv ER (sched m) (K ci) (kcell ci) ∗ reached ER (kcell ci) 0) := by
  unfold records
  exact BI.sep_mono (bigSep_elim (Φ := fun ci => cellInv ER (sched m) (K ci) (kcell ci)) (Finset.mem_univ ci))
    (bigSep_elim (Φ := fun ci => reached ER (kcell ci) 0) (Finset.mem_univ ci))
theorem records_bar (K : Dev nD × Fin 7 → ℕ) (c : Dev nD) :
    records m K ⊢ iprop(cellInv ER (sched m) (K (c, 0)) (barCell c) ∗ reached ER (barCell c) 0) := records_at m K (c, 0)
theorem records_se (K : Dev nD × Fin 7 → ℕ) (c : Dev nD) (k : Fin 3) :
    records m K ⊢ iprop(cellInv ER (sched m) (K (c, seIx k)) (seCell c k) ∗ reached ER (seCell c k) 0) := by
  have h := records_at m K (c, seIx k); rwa [kcell_se] at h
theorem records_re (K : Dev nD × Fin 7 → ℕ) (c : Dev nD) (k : Fin 3) :
    records m K ⊢ iprop(cellInv ER (sched m) (K (c, reIx k)) (reCell c k) ∗ reached ER (reCell c k) 0) := by
  have h := records_at m K (c, reIx k); rwa [kcell_re] at h

/-! ## Reshaping there and back -/

omit [FloatOps F] in
theorem cast_cast {e : EltTy} (w : S2048x512.Idx → Elt F e) (h : S2048x512.ShapeCasts S1x2048x512) (h' : S1x2048x512.ShapeCasts S2048x512) :
    shapeCast S2048x512 (shapeCast S1x2048x512 w h) h' = w := by
  funext i
  show w (Shape.reshapeEquiv h (Shape.reshapeEquiv h' i)) = w i
  congr 1
  apply S2048x512.rowMajor.injective
  apply Fin.ext
  rw [Shape.rowMajor_reshapeEquiv, Shape.rowMajor_reshapeEquiv]

/-! ## A view written in full -/

theorem filled (t : Thread nD τ) {sp : Space} {sh : Shape} {e : EltTy} (M : Memref sig t.2.kind sp sh e)
    (g : Buf (Elt F) (M.view.loc t)) (w : sh.Idx → Elt F e) :
    (M.view.loc t ↦[M.view.set]{fullShare} (M.view.write (Elt F) g w Finset.univ)) ⊢ (owns t M fullShare w : sProp 𝕄) :=
  (owns_intro t M fullShare _).trans (Entails.of_eq (congrArg (owns t M fullShare) (View.read_write_univ g w)))

/-! ## A column piece copied in -/

/-- The copy of slot `s` under way: it will leave the piece in the slot and give back what it was read from. -/
def inFlight (c : Dev nD) (s : Fin 4) : sProp 𝕄 :=
  Flight EC (c : Thread nD τ) (.dma (cpS s)) () NX iprop(vHas c s (xPiece m c (col c s)) ∗ xPts m c (col c s))

theorem wp_copy_in (c : Dev nD) (s : Fin 4) {M : Memref sig .tc .hbm S2048x512 .f32} (hM : M = xB (col c s))
    {D : Memref sig .tc .vmem S2048x512 .f32} (hD : D = vB s) {sm : DmaSem sig} (hs : sm = cpS s)
    {hsrc : M.view.WordExact} {hdst : D.view.WordExact} {hsem : DmaTarget.Typed (nD := nD) (p := Proc.tc) .hbm (.dma sm) (.here D)}
    {α : Type} {Q : α → sProp 𝕄} {k : PUnit → Prog (TpuEff nD τ sig (Elt F) Λ₀ .tc) α} :
    iprop(xPts m c (col c s) ∗ vAny c s ∗ semVal ((c : Thread nD τ), .dma (cpS s)) 0)
      ⊢ iprop((inFlight m c s -∗ Runs c (k ⟨⟩) Q) -∗ Runs c (.op (.enqueueDma M (.here D) (.dma sm) hsrc hdst hsem) k) Q) := by
  subst hM hD hs
  unfold xPts vAny
  iintro ⟨Hx, ⟨%f, Hv⟩, Hs⟩ Hk
  iapply (wp_dmaLocal EC 𝒱₀ (c : Thread nD τ) none (src := xB (col c s)) (via := .same) (dst := vB s) (sm := .dma (cpS s)) (hsrc := hsrc) (hdst := hdst)
    (hsem := hsem) () NX (credit_vB s) NX_pos (subset_refl _)) $$ [Hx Hv Hs]
  · isplitl [Hx]; · iexact Hx
    isplitl [Hv]; · iexact Hv
    iexact Hs
  iintro Hf
  iapply Hk
  unfold inFlight
  iapply (Flight_mono EC (c : Thread nD τ) (D' := iprop(vHas c s (xPiece m c (col c s)) ∗ xPts m c (col c s))) ?_) $$ Hf
  refine sep_mono_left ((owns_intro (c : Thread nD τ) (vB s) fullShare _).trans (Entails.of_eq ?_))
  unfold vHas; congr 1
  exact View.read_write_univ _ _

/-- The copy of slot `s` waited for. -/
theorem wp_copy_in_wait (c : Dev nD) (s : Fin 4) {M : Memref sig .tc .hbm S2048x512 .f32}
    {D : Memref sig .tc .vmem S2048x512 .f32} (hD : D = vB s) {sm : DmaSem sig} (hs : sm = cpS s)
    {hsrc : M.view.WordExact} {hdst : D.view.WordExact} (O : CellTallies nD τ sig Unit) (hO : Above 0 O)
    {α : Type} {Q : α → sProp 𝕄} {k : PUnit → Prog (TpuEff nD τ sig (Elt F) Λ₀ .tc) α} :
    iprop(inFlight m c s ∗ debt c O ∗ levAts L lv)
      ⊢ iprop((iprop((vHas c s (xPiece m c (col c s)) ∗ xPts m c (col c s)) ∗ semVal ((c : Thread nD τ), .dma (cpS s)) 0 ∗ debt c O)
          -∗ Runs c (k ⟨⟩) Q) -∗ Runs c (.op (.waitDma2 sm M D hsrc hdst) k) Q) := by
  subst hD hs
  unfold inFlight debt
  iintro ⟨Hf, ⟨%W, HO⟩, Hlev⟩ Hk
  iapply (wp_waitLocalO EC 𝒱₀ (c : Thread nD τ) none (srcw := M) (dstw := vB s) () (credit_vB s) (O := O) (W := W)) $$ [Hf HO Hlev]
  · isplitl [Hf]; · iexact Hf
    isplitl [HO]; · iexact HO
    iapply (mayWait c (.dma (cpS s)) O (by rw [role_cp]; exact hO)); iexact Hlev
  iintro ⟨HD, Hv, HO⟩
  iapply Hk
  isplitl [HD]; · iexact HD
  isplitl [Hv]; · iexact Hv
  iexists _; iexact HO

/-! ## A slot rounded -/

omit [FloatOps F] in
theorem vB_set (s : Fin 4) : (vB s).view.set = ((Memref.whole cc0_scratch0).access (sR s) : View sig .tc _ _ _).set := View.set_reshape _ _
omit [FloatOps F] in
theorem bB_set (s : Fin 4) : (bB s).view.set = ((Memref.whole cc0_scratch1).access (sR s) : View sig .tc _ _ _).set := View.set_reshape _ _

/-- A view written in full, then read through another of as many elements. -/
theorem read_reshape_write {κ : Kind} {sp : Space} {sh sh' : Shape} {e : EltTy} (v : View sig κ sp sh e) (h : sh'.numel = sh.numel)
    (g : v.ty.Contents (Elt F)) (w : sh.Idx → Elt F e) :
    (v.reshape sh' h).read (Elt F) (v.write (Elt F) g w Finset.univ) = shapeCast sh' w (show sh.ShapeCasts sh' from h) :=
  congrArg (fun w => shapeCast sh' w (show sh.ShapeCasts sh' from h)) (View.read_write_univ g w)

theorem round_read (s : Fin 4) (f : (vB s).view.ty.Contents (Elt F)) (g : (bB s).view.ty.Contents (Elt F)) :
    (bB s).view.read (Elt F) (((Memref.whole cc0_scratch1).access (sR s)).write (Elt F) g
        (k0_pay1 (((Memref.whole cc0_scratch0).access (sR s)).read (Elt F) f)) Finset.univ)
      = truncf .bf16 ((vB s).view.read (Elt F) f) bitsLt_bf16_f32 := by
  refine (read_reshape_write ((Memref.whole cc0_scratch1).access (sR s)) _ g _).trans ?_
  unfold k0_pay1
  exact cast_cast (F := F) (e := .bf16) (truncf .bf16 ((vB s).view.read (Elt F) f) bitsLt_bf16_f32) shapeCasts_S2048x512_S1x2048x512
    shapeCasts_S1x2048x512_S2048x512

theorem wp_round (c : Dev nD) (s : Fin 4) {off : Fin 3 → Nat} (hoff : off = ![s.val, 0, 0])
    {p₁ p₂ p₃ : ∀ a, off a + S1x2048x512.size a ≤ S4x2048x512.size a}
    {P : Vec F S1x2048x512 .f32 → FVec F S1x2048x512 .bf16} (hP : P = k0_pay1)
    {h₁ : (Memref.whole cc0_scratch0).view.LoadsAt (Rect.unit (s := S4x2048x512) off S1x2048x512.size p₁).toLoadRect}
    {h₂ : (Memref.whole cc0_scratch1).view.LoadsAt (Rect.unit (s := S4x2048x512) off S1x2048x512.size p₂).toLoadRect}
    {h₃ : ((Memref.whole cc0_scratch1).access (Rect.unit (s := S4x2048x512) off S1x2048x512.size p₃)).Stores Finset.univ}
    {h₄ : (Finset.univ : Finset (Rect.unit (s := S4x2048x512) off S1x2048x512.size p₃).shape.Idx) = Finset.univ
      ∨ ∀ a, (Rect.unit (s := S4x2048x512) off S1x2048x512.size p₃).stride a = 1}
    (X : FVec F S2048x512 .f32)
    {α : Type} {Q : α → sProp 𝕄} {k : PUnit → Prog (TpuEff nD τ sig (Elt F) Λ₀ .tc) α} :
    iprop(vHas c s X ∗ bAny c s)
      ⊢ iprop((iprop(vAny c s ∗ bHas c s (truncf .bf16 X bitsLt_bf16_f32)) -∗ Runs c (k ⟨⟩) Q)
          -∗ Runs c (.op (.load (Memref.whole cc0_scratch0) (Rect.unit (s := S4x2048x512) off S1x2048x512.size p₁).toLoadRect h₁) fun v =>
              .op (.load (Memref.whole cc0_scratch1) (Rect.unit (s := S4x2048x512) off S1x2048x512.size p₂).toLoadRect h₂) fun _ =>
              .op (.store (Memref.whole cc0_scratch1) (Rect.unit (s := S4x2048x512) off S1x2048x512.size p₃) (P v) Finset.univ h₃ h₄) k) Q) := by
  subst hoff hP
  unfold vHas bAny owns
  iintro ⟨⟨%f, %hf, Hv⟩, ⟨%g, Hb⟩⟩ Hk
  iapply (wp_load_rect 𝒱₀ (c : Thread nD τ) none Set.univ (m := Memref.whole cc0_scratch0) (r := sR s) (S := (vB s).view.set) (f := f)
    (vB_set s).ge) $$ Hv
  iintro Hv
  iapply (wp_load_rect 𝒱₀ (c : Thread nD τ) none Set.univ (m := Memref.whole cc0_scratch1) (r := sR s) (S := (bB s).view.set) (f := g)
    (bB_set s).ge) $$ Hb
  iintro Hb
  iapply (wp_store 𝒱₀ (c : Thread nD τ) none Set.univ (m := Memref.whole cc0_scratch1) (r := sR s) (Mk := Finset.univ)
    (S := (bB s).view.set) (f := g) (bB_set s).ge) $$ Hb
  iintro Hb
  iapply Hk
  isplitl [Hv]
  · unfold vAny; iexists f; iexact Hv
  · unfold bHas owns
    iexists (((Memref.whole cc0_scratch1).access (sR s)).write (Elt F) g
        (k0_pay1 (((Memref.whole cc0_scratch0).access (sR s)).read (Elt F) f)) Finset.univ)
    isplitr
    · ipureintro
      rw [← hf]
      exact round_read s f g
    · iexact Hb

/-! ## A slot sent -/

theorem sent_dep (c : Dev nD) (s : Fin 3) (f : Buf (Elt F) ((bB s.castSucc).view.loc (c : Thread nD τ))) :
    ((bB s.castSucc).view.loc (c : Thread nD τ) ↦[(bB s.castSucc).view.set]{fullShare} f)
      ⊢ (sched m).payload (seCell c (hop c s)) 0 0 := by
  rw [payload_se]; unfold depPay; rw [slotOf_hop]; unfold bAny
  exact BI.BIClass.exists_intro (Φ := fun f => iprop((bB s.castSucc).view.loc (c : Thread nD τ) ↦[(bB s.castSucc).view.set]{fullShare} f)) f

theorem sent_arr (c : Dev nD) (s : Fin 3) (f : (bB s.castSucc).view.ty.Contents (Elt F))
    (g : Buf (Elt F) ((oB (zc c)).view.loc (peer (hop c s) c : Thread nD τ)))
    (hf : (bB s.castSucc).view.read (Elt F) f = piece m c (col c s.castSucc)) :
    ((oB (zc c)).view.loc (peer (hop c s) c : Thread nD τ) ↦[(oB (zc c)).view.set]{fullShare}
        ((oB (zc c)).view.write (Elt F) g ((bB s.castSucc).view.read (Elt F) f) Finset.univ))
      ⊢ (sched m).payload (reCell (peer (hop c s) c) (hop c s)) 0 0 := by
  rw [payload_re, hf]; unfold arrPay oHas; rw [peer_rev, zc_peer_hop]
  exact filled (peer (hop c s) c : Thread nD τ) (oB (zc c)) g _

theorem wp_send_slot (K : Dev nD × Fin 7 → ℕ) (c : Dev nD) (s : Fin 3) {n : Dev nD} (hn : n = peer (hop c s) c)
    {M : Memref sig .tc .vmem S2048x512 .bf16} (hM : M = bB s.castSucc)
    {D : Memref sig .tc .hbm S2048x512 .bf16} (hD : D = oB (zc c))
    {sS sR : DmaSem sig} (hS : sS = seS (hop c s)) (hR : sR = reS (hop c s))
    {hsc : (D : Memref sig (Dev.tc n : Thread nD τ).2.kind .hbm S2048x512 .bf16).view.ref.isScScratch = false}
    {hsrc : M.view.WordExact} {hdst : D.view.WordExact}
    {hsem : DmaTarget.Typed (p := Proc.tc) .vmem (.dma sR) (.remote (Dev.tc n : Thread nD τ) D (.dma sS) hsc)}
    (O : CellTallies nD τ sig Unit)
    {α : Type} {Q : α → sProp 𝕄} {k : PUnit → Prog (TpuEff nD τ sig (Elt F) Λ₀ .tc) α} :
    iprop(records m K ∗ bHas c s.castSucc (piece m c (col c s.castSucc)) ∗ oAny (peer (hop c s) c) (zc c) ∗ debt c (O + rt c s)
        ∗ dutyTok ER (seCell c (hop c s)) 0 0 ∗ dutyTok ER (reCell (peer (hop c s) c) (hop c s)) 0 0)
      ⊢ iprop((iprop(cred (tallyAt (seCell c (hop c s)) () NB) ∗ debt c O) -∗ Runs c (k ⟨⟩) Q)
          -∗ Runs c (.op (.enqueueDma M (.remote (Dev.tc n : Thread nD τ) D (.dma sS) hsc) (.dma sR) hsrc hdst hsem) k) Q) := by
  subst hn hM hD hS hR
  unfold bHas owns oAny debt
  iintro ⟨#HR, ⟨%f, %hf, Hb⟩, ⟨%g, Ho⟩, ⟨%W, HO⟩, Ht, Ht'⟩ Hk
  ihave H1 := (records_se m K c (hop c s)) $$ HR
  icases H1 with ⟨#HI1, #Hr1⟩
  ihave H2 := (records_re m K (peer (hop c s) c) (hop c s)) $$ HR
  icases H2 with ⟨#HI2, #Hr2⟩
  iapply (Rounds.wp_send_pointsTo 𝒱₀ ER (sched m) (c : Thread nD τ) none (κ₁ := K (c, seIx (hop c s))) (κ₂ := K (peer (hop c s) c, reIx (hop c s)))
    (r₁ := 0) (r₂ := 0) (d₁ := 0) (d₂ := 0) (fd := g) (sS := .dma (seS (hop c s))) (sem := .dma (reS (hop c s)))
    (by rw [duties_se]; exact Finset.mem_singleton_self _) (by rw [duties_re]; exact Finset.mem_singleton_self _)
    () () NB (credit_oB _) (amount_se m c (hop c s) 0) (amount_re m (peer (hop c s) c) (hop c s) 0) O rfl (W := W)
    (sent_dep m c s f) (sent_arr m c s f g hf)) $$ [Hb Ho HO Ht Ht']
  · isplitr; · iexact HI1
    isplitr; · iexact HI2
    isplitl [Hb]; · iexact Hb
    isplitl [Ho]; · iexact Ho
    isplitl [HO]; · iexact HO
    isplitl [Ht]; · iexact Ht
    isplitr; · iexact Hr1
    isplitl [Ht']; · iexact Ht'
    iexact Hr2
  iintro ⟨Hc, HO⟩
  iapply Hk
  isplitl [Hc]; · iexact Hc
  iexists W; iexact HO

/-! ## The last slot copied out -/

/-- The copy of the last slot under way. -/
def outFlight (c : Dev nD) : sProp 𝕄 :=
  Flight EC (c : Thread nD τ) (.dma (cpS 3)) () NB iprop(oHas c (zc c) (piece m c (zc c)) ∗ bAny c 3)

theorem wp_copy_out (c : Dev nD) {M : Memref sig .tc .vmem S2048x512 .bf16} (hM : M = bB 3)
    {D : Memref sig .tc .hbm S2048x512 .bf16} (hD : D = oB (zc c)) {sm : DmaSem sig} (hs : sm = cpS 3)
    {hsrc : M.view.WordExact} {hdst : D.view.WordExact} {hsem : DmaTarget.Typed (nD := nD) (p := Proc.tc) .vmem (.dma sm) (.here D)}
    {α : Type} {Q : α → sProp 𝕄} {k : PUnit → Prog (TpuEff nD τ sig (Elt F) Λ₀ .tc) α} :
    iprop(bHas c 3 (piece m c (col c 3)) ∗ oAny c (zc c) ∗ semVal ((c : Thread nD τ), .dma (cpS 3)) 0)
      ⊢ iprop((outFlight m c -∗ Runs c (k ⟨⟩) Q) -∗ Runs c (.op (.enqueueDma M (.here D) (.dma sm) hsrc hdst hsem) k) Q) := by
  subst hM hD hs
  rw [col_last]
  unfold bHas owns oAny
  iintro ⟨⟨%f, %hf, Hb⟩, ⟨%g, Ho⟩, Hs⟩ Hk
  iapply (wp_dmaLocal EC 𝒱₀ (c : Thread nD τ) none (src := bB 3) (via := .same) (dst := oB (zc c)) (sm := .dma (cpS 3)) (hsrc := hsrc) (hdst := hdst)
    (hsem := hsem) () NB (credit_oB _) NB_pos (subset_refl _)) $$ [Hb Ho Hs]
  · isplitl [Hb]; · iexact Hb
    isplitl [Ho]; · iexact Ho
    iexact Hs
  iintro Hf
  iapply Hk
  unfold outFlight
  iapply (Flight_mono EC (c : Thread nD τ) (D' := iprop(oHas c (zc c) (piece m c (zc c)) ∗ bAny c 3)) ?_) $$ Hf
  refine BI.sep_mono ((owns_intro (c : Thread nD τ) (oB (zc c)) fullShare _).trans (Entails.of_eq ?_)) ?_
  · unfold oHas; rw [← hf]; congr 1
    exact View.read_write_univ _ _
  · unfold bAny; exact BI.BIClass.exists_intro (Φ := fun f => iprop((bB 3).view.loc (c : Thread nD τ) ↦[(bB 3).view.set]{fullShare} f)) f

theorem wp_copy_out_wait (c : Dev nD) {M : Memref sig .tc .vmem S2048x512 .bf16}
    {D : Memref sig .tc .hbm S2048x512 .bf16} (hD : D = oB (zc c)) {sm : DmaSem sig} (hs : sm = cpS 3)
    {hsrc : M.view.WordExact} {hdst : D.view.WordExact} (O : CellTallies nD τ sig Unit) (hO : Above 0 O)
    {α : Type} {Q : α → sProp 𝕄} {k : PUnit → Prog (TpuEff nD τ sig (Elt F) Λ₀ .tc) α} :
    iprop(outFlight m c ∗ debt c O ∗ levAts L lv)
      ⊢ iprop((iprop((oHas c (zc c) (piece m c (zc c)) ∗ bAny c 3) ∗ semVal ((c : Thread nD τ), .dma (cpS 3)) 0 ∗ debt c O)
          -∗ Runs c (k ⟨⟩) Q) -∗ Runs c (.op (.waitDma2 sm M D hsrc hdst) k) Q) := by
  subst hD hs
  unfold outFlight debt
  iintro ⟨Hf, ⟨%W, HO⟩, Hlev⟩ Hk
  iapply (wp_waitLocalO EC 𝒱₀ (c : Thread nD τ) none (srcw := M) (dstw := oB (zc c)) () (credit_oB _) (O := O) (W := W)) $$ [Hf HO Hlev]
  · isplitl [Hf]; · iexact Hf
    isplitl [HO]; · iexact HO
    iapply (mayWait c (.dma (cpS 3)) O (by rw [role_cp]; exact hO)); iexact Hlev
  iintro ⟨HD, Hv, HO⟩
  iapply Hk
  isplitl [HD]; · iexact HD
  isplitl [Hv]; · iexact Hv
  iexists _; iexact HO

/-! ## The barrier -/

/-- The unit for the device `k + 1` places on: it hands that device the row piece of its place. -/
theorem wp_greet (K : Dev nD × Fin 7 → ℕ) (c : Dev nD) (k : Fin 3) {n : Dev nD} (hn : n = peer k c)
    (O : CellTallies nD τ sig Unit)
    {α : Type} {Q : α → sProp 𝕄} {kk : PUnit → Prog (TpuEff nD τ sig (Elt F) Λ₀ .tc) α} :
    iprop(records m K ∗ debt c (O + bt c k) ∗ dutyTok ER (barCell (peer k c)) 0 k ∗ oAny c (zc (peer k c)))
      ⊢ iprop((debt c O -∗ Runs c (kk ⟨⟩) Q)
          -∗ Runs c (.op (.semSignal (Dev.tc n : Thread nD τ) barS 1) kk) Q) := by
  subst hn
  unfold debt
  iintro ⟨#HR, ⟨%W, HO⟩, Ht, Ho⟩ Hk
  ihave H1 := (records_bar m K (peer k c)) $$ HR
  icases H1 with ⟨#HI1, #Hr1⟩
  iapply (Rounds.wp_signal 𝒱₀ ER (sched m) (c : Thread nD τ) none (dst := (peer k c : Thread nD τ)) (κ := K (peer k c, 0))
      (d := k) (by rw [duties_bar]; exact Finset.mem_univ _) (amount_bar m (peer k c) k) () O rfl) $$ [HO Ht Ho]
  · isplitr; · iexact HI1
    isplitl [HO]; · iexact HO
    isplitl [Ht]; · iexact Ht
    isplitl [Ho]
    · rw [payload_bar]; unfold barPay; rw [peer_rev]; iexact Ho
    · iexact Hr1
  iintro HO
  iapply Hk
  iexists W; iexact HO

/-- The three units waited for: the row pieces of the other devices come with them. -/
theorem wp_meet (K : Dev nD × Fin 7 → ℕ) (c : Dev nD) {n : ℕ} (hn : n = 3) (O : CellTallies nD τ sig Unit) (hO : Above 1 O)
    {α : Type} {Q : α → sProp 𝕄} {kk : PUnit → Prog (TpuEff nD τ sig (Elt F) Λ₀ .tc) α} :
    iprop(records m K ∗ debt c O ∗ cred (tallyAt (barCell c) () 3) ∗ atPos ER (barCell c) 0 ∅ 0 ∗ levAts L lv)
      ⊢ iprop((iprop(debt c O ∗ semVal (barCell c) 0 ∗ bigSep Finset.univ fun k : Fin 3 => oAny (peer k c) (zc c)) -∗ Runs c (kk ⟨⟩) Q)
          -∗ Runs c (.op (.semWait barS n) kk) Q) := by
  subst hn
  unfold debt
  iintro ⟨#HR, ⟨%W, HO⟩, Hc, Hat, Hlev⟩ Hk
  ihave H1 := (records_bar m K c) $$ HR
  icases H1 with ⟨#HI1, -⟩
  iapply (Rounds.wp_wait_rest_token 𝒱₀ ER (sched m) (c : Thread nD τ) none (κ := K (c, 0))
      (wpE_semWait_eq 𝒱₀ (c : Thread nD τ) none Set.univ) (Set.mem_univ _) () (O := O) (W := W) (R := 0) (m := 0) (T := ∅)
      (by rw [expect_bar])) $$ [HO Hc Hat Hlev]
  · isplitr; · iexact HI1
    isplitl [Hc]; · iexact Hc
    isplitl [HO]; · iexact HO
    isplitl [Hlev]; · iapply (mayWait c (.reg barS) O hO); iexact Hlev
    iexact Hat
  iintro ⟨HO, Hat, -, Hpay⟩
  imod (Rounds.cell_close ER (sched m) (Set.mem_univ (K (c, 0))) (fun h => h) (R := 0 + 1) (duties_later m (barCell c))) $$ [Hat] with Hz
  · isplitr; · iexact HI1
    iexact Hat
  iapply Hk
  isplitl [HO]; · iexists _; iexact HO
  isplitl [Hz]; · iexact Hz
  iapply (Entails.of_eq (rest_bar m c)); iexact Hpay

/-! ## An arrival and a departure waited for -/

theorem wp_arrival (K : Dev nD × Fin 7 → ℕ) (c : Dev nD) (k : Fin 3) {M : Memref sig .tc .vmem S2048x512 .bf16}
    {D : Memref sig .tc .hbm S2048x512 .bf16} (hD : D.view.dmaCredit = NB) {sm : DmaSem sig} (hs : sm = reS k)
    {hsrc : M.view.WordExact} {hdst : D.view.WordExact}
    {α : Type} {Q : α → sProp 𝕄} {kk : PUnit → Prog (TpuEff nD τ sig (Elt F) Λ₀ .tc) α} :
    iprop(records m K ∗ debt c 0 ∗ cred (tallyAt (reCell c k) () NB) ∗ atPos ER (reCell c k) 0 ∅ 0)
      ⊢ iprop((iprop(debt c 0 ∗ semVal (reCell c k) 0 ∗ arrPay m c k) -∗ Runs c (kk ⟨⟩) Q)
          -∗ Runs c (.op (.waitDma2 sm M D hsrc hdst) kk) Q) := by
  subst hs
  unfold debt
  iintro ⟨#HR, ⟨%W, HO⟩, Hc, Hat⟩ Hk
  ihave H1 := (records_re m K c k) $$ HR
  icases H1 with ⟨#HI1, -⟩
  rw [← hD]
  iapply (Rounds.wp_wait_rest_token 𝒱₀ ER (sched m) (c : Thread nD τ) none (κ := K (c, reIx k))
      (wpE_waitDma2_eq 𝒱₀ (c : Thread nD τ) none Set.univ) (Set.mem_univ _) () (O := 0) (W := W) (R := 0) (m := 0) (T := ∅)
      (by rw [Nat.zero_add, expect_re, hD])) $$ [HO Hc Hat]
  · isplitr; · iexact HI1
    isplitl [Hc]; · iexact Hc
    isplitl [HO]; · iexact HO
    isplitr; · rw [MayWait_zero]; iempintro
    iexact Hat
  iintro ⟨HO, Hat, -, Hpay⟩
  imod (Rounds.cell_close ER (sched m) (Set.mem_univ (K (c, reIx k))) (fun h => h) (R := 0 + 1) (duties_later m (reCell c k))) $$ [Hat] with Hz
  · isplitr; · iexact HI1
    iexact Hat
  iapply Hk
  isplitl [HO]; · iexists _; iexact HO
  isplitl [Hz]; · iexact Hz
  iapply (Entails.of_eq (rest_re m c k)); iexact Hpay

theorem wp_departure (K : Dev nD × Fin 7 → ℕ) (c : Dev nD) (s : Fin 3) {M : Memref sig .tc .hbm S2048x512 .bf16}
    {D : Memref sig .tc .vmem S2048x512 .bf16} (hD : D.view.dmaCredit = NB) {sm : DmaSem sig} (hs : sm = seS (hop c s))
    {hsrc : M.view.WordExact} {hdst : D.view.WordExact}
    {α : Type} {Q : α → sProp 𝕄} {kk : PUnit → Prog (TpuEff nD τ sig (Elt F) Λ₀ .tc) α} :
    iprop(records m K ∗ debt c 0 ∗ cred (tallyAt (seCell c (hop c s)) () NB) ∗ atPos ER (seCell c (hop c s)) 0 ∅ 0)
      ⊢ iprop((iprop(debt c 0 ∗ semVal (seCell c (hop c s)) 0 ∗ bAny c s.castSucc) -∗ Runs c (kk ⟨⟩) Q)
          -∗ Runs c (.op (.waitDma2 sm M D hsrc hdst) kk) Q) := by
  subst hs
  unfold debt
  iintro ⟨#HR, ⟨%W, HO⟩, Hc, Hat⟩ Hk
  ihave H1 := (records_se m K c (hop c s)) $$ HR
  icases H1 with ⟨#HI1, -⟩
  rw [← hD]
  iapply (Rounds.wp_wait_rest_token 𝒱₀ ER (sched m) (c : Thread nD τ) none (κ := K (c, seIx (hop c s)))
      (wpE_waitDma2_eq 𝒱₀ (c : Thread nD τ) none Set.univ) (Set.mem_univ _) () (O := 0) (W := W) (R := 0) (m := 0) (T := ∅)
      (by rw [Nat.zero_add, expect_se, hD])) $$ [HO Hc Hat]
  · isplitr; · iexact HI1
    isplitl [Hc]; · iexact Hc
    isplitl [HO]; · iexact HO
    isplitr; · rw [MayWait_zero]; iempintro
    iexact Hat
  iintro ⟨HO, Hat, -, Hpay⟩
  imod (Rounds.cell_close ER (sched m) (Set.mem_univ (K (c, seIx (hop c s)))) (fun h => h) (R := 0 + 1) (duties_later m (seCell c (hop c s)))) $$ [Hat] with Hz
  · isplitr; · iexact HI1
    iexact Hat
  iapply Hk
  isplitl [HO]; · iexists _; iexact HO
  isplitl [Hz]; · iexact Hz
  iapply (Entails.of_eq ((rest_se m c (hop c s)).trans (by unfold depPay; rw [slotOf_hop]))); iexact Hpay

end Cert.Transpose

end
-- ==== Proof.Body.lean ====
/-
# The kernel's run on one device

The whole body at a symbolic device, step by step in the program's order: the four column pieces copied in, the three
units signalled and awaited, three slots rounded and sent, the fourth rounded and kept, then the three arrivals and the
three departures awaited.
-/
module

public import proofs.«01_k».proof.Proof.Steps

@[expose] public section

noncomputable section

namespace Cert.Transpose

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem three (Φ : Fin 3 → sProp 𝕄) : bigSep Finset.univ Φ = iprop(Φ 0 ∗ Φ 1 ∗ Φ 2) :=
  bigSep_univ_eq_bigSepL [0, 1, 2] (by decide) (by decide) Φ
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A slice of the result of a piece's size counts as a piece. -/
theorem credit_oB_of {off : Fin 2 → Nat} (p : ∀ a, off a + S2048x512.size a ≤ S8192x512.size a)
    (hu : ∀ a, (Rect.unit (s := S8192x512) off S2048x512.size p).stride a = 1) :
    ((Memref.whole main_v1).slice (Rect.unit (s := S8192x512) off S2048x512.size p) hu : Memref sig .tc .hbm S2048x512 .bf16).view.dmaCredit = NB := by
  unfold NB; rfl

/-! ## What the run takes and what it leaves -/

/-- For the unit to the device `k + 1` places on: the right to signal it, and the row piece it hands over. -/
def greets (c : Dev nD) (k : Fin 3) : sProp 𝕄 := iprop(dutyTok ER (barCell (peer k c)) 0 k ∗ oAny c (zc (peer k c)))
/-- For the piece slot `s` carries: the rights to pay its two semaphores, and the wait for its departure. -/
def sends (c : Dev nD) (s : Fin 3) : sProp 𝕄 :=
  iprop(dutyTok ER (seCell c (hop c s)) 0 0 ∗ dutyTok ER (reCell (peer (hop c s) c) (hop c s)) 0 0 ∗ atPos ER (seCell c (hop c s)) 0 ∅ 0)
/-- For the piece that comes `k + 1` places: the wait for its arrival. -/
def takes (c : Dev nD) (k : Fin 3) : sProp 𝕄 := iprop(cred (tallyAt (reCell c k) () NB) ∗ atPos ER (reCell c k) 0 ∅ 0)
/-- For the copy into slot `s`: its column piece, the slot, and its semaphore at zero. -/
def loads (c : Dev nD) (s : Fin 4) : sProp 𝕄 := iprop(xPts m c (col c s) ∗ vAny c s ∗ semVal ((c : Thread nD τ), .dma (cpS s)) 0)

/-- What device `c` holds before its run. -/
def before (K : Dev nD × Fin 7 → ℕ) (c : Dev nD) : sProp 𝕄 :=
  iprop(records m K ∗ levAts L lv ∗ debt c (O₀ c)
    ∗ (bigSep Finset.univ fun s : Fin 4 => loads m c s)
    ∗ (bigSep Finset.univ fun s : Fin 4 => bAny c s)
    ∗ (bigSep Finset.univ fun k : Fin 3 => greets c k)
    ∗ (cred (tallyAt (barCell c) () 3) ∗ atPos ER (barCell c) 0 ∅ 0)
    ∗ (bigSep Finset.univ fun s : Fin 3 => sends c s)
    ∗ (bigSep Finset.univ fun k : Fin 3 => takes c k)
    ∗ oAny c (zc c))

/-- What it holds after. -/
def after (c : Dev nD) : sProp 𝕄 :=
  iprop(debt c 0
    ∗ (bigSep Finset.univ fun s : Fin 4 => loads m c s)
    ∗ (bigSep Finset.univ fun s : Fin 4 => bAny c s)
    ∗ semVal (barCell c) 0
    ∗ (bigSep Finset.univ fun s : Fin 3 => semVal (seCell c (hop c s)) 0)
    ∗ (bigSep Finset.univ fun k : Fin 3 => iprop(semVal (reCell c k) 0 ∗ arrPay m c k))
    ∗ oHas c (zc c) (piece m c (zc c)))

theorem by_slot (c : Dev nD) : (bigSep Finset.univ fun k : Fin 3 => (oAny (peer k c) (zc c) : sProp 𝕄))
    = iprop(oAny (peer (hop c 0) c) (zc c) ∗ oAny (peer (hop c 1) c) (zc c) ∗ oAny (peer (hop c 2) c) (zc c)) := by
  rw [bigSep_univ_equiv (hops c), three]; rfl

set_option maxHeartbeats 1600000 in
theorem run_body (K : Dev nD × Fin 7 → ℕ) (c : Dev nD) (Q : PUnit → sProp 𝕄) :
    iprop(before m K c ∗ (after m c -∗ Q ⟨⟩))
      ⊢ Runs c (cc0_body (Memref.whole main_arg0) (Memref.isWhole_whole _) (Memref.whole main_v1) (Memref.isWhole_whole _)
          (Memref.whole cc0_scratch0) (Memref.isWhole_whole _) (Memref.whole cc0_scratch1) (Memref.isWhole_whole _)
          cc0_scratch2 cc0_scratch3 cc0_scratch4) Q := by
  simp only [cc0_body_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, cc0_body_skel,
    k0_part1_skel, k0_part2_skel, k0_part3_skel, k0_part4_skel, k0_part5_skel, k0_part6_skel, k0_part7_skel, k0_part8_skel, k0_part9_skel]
  simp only [semSignalWord, semWaitWord, Prog.lift, Prog.bind_op, Prog.bind_ret, Prog.pure_eq_ret, wp_deviceId]
  unfold before after
  simp only [three, four]
  unfold loads greets sends takes
  iintro ⟨⟨#HR, #Hlev, HO, ⟨⟨Hx0, Hv0, Hs0⟩, ⟨Hx1, Hv1, Hs1⟩, ⟨Hx2, Hv2, Hs2⟩, ⟨Hx3, Hv3, Hs3⟩⟩, ⟨Hb0, Hb1, Hb2, Hb3⟩,
    ⟨⟨Hg0, Ho0⟩, ⟨Hg1, Ho1⟩, ⟨Hg2, Ho2⟩⟩, ⟨HcB, HaB⟩, ⟨⟨Ht0, Hu0, Ha0⟩, ⟨Ht1, Hu1, Ha1⟩, ⟨Ht2, Hu2, Ha2⟩⟩,
    ⟨⟨Hd0, He0⟩, ⟨Hd1, He1⟩, ⟨Hd2, He2⟩⟩, Ho⟩, Hk⟩
  iapply (wp_copy_in m c 0 (xB_of (off1a c) _ _) rfl (cp_of rfl _)) $$ [Hx0 Hv0 Hs0]
  · isplitl [Hx0]; · iexact Hx0
    isplitl [Hv0] <;> iassumption
  iintro Hf0
  iapply (wp_copy_in m c 1 (xB_of (off1b c) _ _) rfl (cp_of rfl _)) $$ [Hx1 Hv1 Hs1]
  · isplitl [Hx1]; · iexact Hx1
    isplitl [Hv1] <;> iassumption
  iintro Hf1
  iapply (wp_copy_in m c 2 (xB_of (off2 c) _ _) rfl (cp_of rfl _)) $$ [Hx2 Hv2 Hs2]
  · isplitl [Hx2]; · iexact Hx2
    isplitl [Hv2] <;> iassumption
  iintro Hf2
  iapply (wp_copy_in m c 3 (xB_of (off3 c) _ _) rfl (cp_of rfl _)) $$ [Hx3 Hv3 Hs3]
  · isplitl [Hx3]; · iexact Hx3
    isplitl [Hv3] <;> iassumption
  iintro Hf3
  iapply (wp_greet m K c 0 (dev1_eq c) (B₁ c)) $$ [HO Hg0 Ho0]
  · isplitr; · iexact HR
    isplitl [HO]; · iexact HO
    isplitl [Hg0] <;> iassumption
  iintro HO
  iapply (wp_greet m K c 1 (dev2_eq c) (B₂ c)) $$ [HO Hg1 Ho1]
  · isplitr; · iexact HR
    isplitl [HO]; · iexact HO
    isplitl [Hg1] <;> iassumption
  iintro HO
  iapply (wp_greet m K c 2 (dev3_eq c) (D₀ c)) $$ [HO Hg2 Ho2]
  · isplitr; · iexact HR
    isplitl [HO]; · iexact HO
    isplitl [Hg2] <;> iassumption
  iintro HO
  iapply (wp_meet m K c (by decide) (D₀ c) (above_D₀ (by decide) c)) $$ [HO HcB HaB]
  · isplitr; · iexact HR
    isplitl [HO]; · iexact HO
    isplitl [HcB]; · iexact HcB
    isplitl [HaB]; · iexact HaB
    iexact Hlev
  iintro ⟨HO, HzB, Hmet⟩
  ihave Hmet := (Entails.of_eq (by_slot c)) $$ Hmet
  icases Hmet with ⟨Hp0, Hp1, Hp2⟩
  iapply (wp_copy_in_wait m c 0 rfl (cp_of rfl _) (D₀ c) (above_D₀ (by decide) c)) $$ [Hf0 HO]
  · isplitl [Hf0]; · iexact Hf0
    isplitl [HO]; · iexact HO
    iexact Hlev
  iintro ⟨⟨Hv0, Hx0⟩, Hs0, HO⟩
  iapply (wp_round c 0 rfl rfl (xPiece m c (col c 0))) $$ [Hv0 Hb0]
  · isplitl [Hv0] <;> iassumption
  iintro ⟨Hv0, Hb0⟩
  iapply (wp_send_slot m K c 0 (dev4_eq c) rfl (oB_of (off5 c) _ _) (se_of (off4a c) _) (re_of (off4a c) _) (D₁ c)) $$ [Hb0 Hp0 HO Ht0 Hu0]
  · isplitr; · iexact HR
    isplitl [Hb0]; · iexact Hb0
    isplitl [Hp0]; · iexact Hp0
    isplitl [HO]; · iexact HO
    isplitl [Ht0] <;> iassumption
  iintro ⟨Hc0, HO⟩
  iapply (wp_copy_in_wait m c 1 rfl (cp_of rfl _) (D₁ c) (above_D₁ (by decide) c)) $$ [Hf1 HO]
  · isplitl [Hf1]; · iexact Hf1
    isplitl [HO]; · iexact HO
    iexact Hlev
  iintro ⟨⟨Hv1, Hx1⟩, Hs1, HO⟩
  iapply (wp_round c 1 rfl rfl (xPiece m c (col c 1))) $$ [Hv1 Hb1]
  · isplitl [Hv1] <;> iassumption
  iintro ⟨Hv1, Hb1⟩
  iapply (wp_send_slot m K c 1 (dev5_eq c) rfl (oB_of (off5 c) _ _) (se_of (off4b c) _) (re_of (off4b c) _) (D₂ c)) $$ [Hb1 Hp1 HO Ht1 Hu1]
  · isplitr; · iexact HR
    isplitl [Hb1]; · iexact Hb1
    isplitl [Hp1]; · iexact Hp1
    isplitl [HO]; · iexact HO
    isplitl [Ht1] <;> iassumption
  iintro ⟨Hc1, HO⟩
  iapply (wp_copy_in_wait m c 2 rfl (cp_of rfl _) (D₂ c) (above_D₂ (by decide) c)) $$ [Hf2 HO]
  · isplitl [Hf2]; · iexact Hf2
    isplitl [HO]; · iexact HO
    iexact Hlev
  iintro ⟨⟨Hv2, Hx2⟩, Hs2, HO⟩
  iapply (wp_round c 2 rfl rfl (xPiece m c (col c 2))) $$ [Hv2 Hb2]
  · isplitl [Hv2] <;> iassumption
  iintro ⟨Hv2, Hb2⟩
  iapply (wp_send_slot m K c 2 (dev6_eq c) rfl (oB_of (off5 c) _ _) (se_of (off6 c) _) (re_of (off6 c) _) 0) $$ [Hb2 Hp2 HO Ht2 Hu2]
  · isplitr; · iexact HR
    isplitl [Hb2]; · iexact Hb2
    isplitl [Hp2]; · iexact Hp2
    isplitl [HO]; · iexact HO
    isplitl [Ht2] <;> iassumption
  iintro ⟨Hc2, HO⟩
  iapply (wp_copy_in_wait m c 3 rfl (cp_of rfl _) 0 (above_zero 0)) $$ [Hf3 HO]
  · isplitl [Hf3]; · iexact Hf3
    isplitl [HO]; · iexact HO
    iexact Hlev
  iintro ⟨⟨Hv3, Hx3⟩, Hs3, HO⟩
  iapply (wp_round c 3 rfl rfl (xPiece m c (col c 3))) $$ [Hv3 Hb3]
  · isplitl [Hv3] <;> iassumption
  iintro ⟨Hv3, Hb3⟩
  iapply (wp_copy_out m c rfl (oB_of (off5 c) _ _) (cp_of rfl _)) $$ [Hb3 Ho Hs3]
  · isplitl [Hb3]; · iexact Hb3
    isplitl [Ho] <;> iassumption
  iintro Hf3
  iapply (wp_copy_out_wait m c (oB_of (off5 c) _ _) (cp_of rfl _) 0 (above_zero 0)) $$ [Hf3 HO]
  · isplitl [Hf3]; · iexact Hf3
    isplitl [HO]; · iexact HO
    iexact Hlev
  iintro ⟨⟨Ho, Hb3⟩, Hs3, HO⟩
  iapply (wp_arrival m K c 0 (credit_oB_of _ _) (re_of rfl _)) $$ [HO Hd0 He0]
  · isplitr; · iexact HR
    isplitl [HO]; · iexact HO
    isplitl [Hd0] <;> iassumption
  iintro ⟨HO, Hr0, Hq0⟩
  iapply (wp_arrival m K c 1 (credit_oB_of _ _) (re_of rfl _)) $$ [HO Hd1 He1]
  · isplitr; · iexact HR
    isplitl [HO]; · iexact HO
    isplitl [Hd1] <;> iassumption
  iintro ⟨HO, Hr1, Hq1⟩
  iapply (wp_arrival m K c 2 (credit_oB_of _ _) (re_of rfl _)) $$ [HO Hd2 He2]
  · isplitr; · iexact HR
    isplitl [HO]; · iexact HO
    isplitl [Hd2] <;> iassumption
  iintro ⟨HO, Hr2, Hq2⟩
  iapply (wp_departure m K c 0 (credit_bB 0) (se_of (off4a c) _)) $$ [HO Hc0 Ha0]
  · isplitr; · iexact HR
    isplitl [HO]; · iexact HO
    isplitl [Hc0] <;> iassumption
  iintro ⟨HO, Hz0, Hb0⟩
  iapply (wp_departure m K c 1 (credit_bB 1) (se_of (off4b c) _)) $$ [HO Hc1 Ha1]
  · isplitr; · iexact HR
    isplitl [HO]; · iexact HO
    isplitl [Hc1] <;> iassumption
  iintro ⟨HO, Hz1, Hb1⟩
  iapply (wp_departure m K c 2 (credit_bB 2) (se_of (off6 c) _)) $$ [HO Hc2 Ha2]
  · isplitr; · iexact HR
    isplitl [HO]; · iexact HO
    isplitl [Hc2] <;> iassumption
  iintro ⟨HO, Hz2, Hb2⟩
  unfold Runs; rw [wp_ret]; imodintro
  iapply Hk
  isplitl [HO]; · iexact HO
  isplitl [Hx0 Hv0 Hs0 Hx1 Hv1 Hs1 Hx2 Hv2 Hs2 Hx3 Hv3 Hs3]
  · isplitl [Hx0 Hv0 Hs0]
    · isplitl [Hx0]; · iexact Hx0
      isplitl [Hv0] <;> iassumption
    isplitl [Hx1 Hv1 Hs1]
    · isplitl [Hx1]; · iexact Hx1
      isplitl [Hv1] <;> iassumption
    isplitl [Hx2 Hv2 Hs2]
    · isplitl [Hx2]; · iexact Hx2
      isplitl [Hv2] <;> iassumption
    isplitl [Hx3]; · iexact Hx3
    isplitl [Hv3] <;> iassumption
  isplitl [Hb0 Hb1 Hb2 Hb3]
  · isplitl [Hb0]; · iexact Hb0
    isplitl [Hb1]; · iexact Hb1
    isplitl [Hb2]; · iexact Hb2
    iexact Hb3
  isplitl [HzB]; · iexact HzB
  isplitl [Hz0 Hz1 Hz2]
  · isplitl [Hz0]; · iexact Hz0
    isplitl [Hz1] <;> iassumption
  isplitl [Hr0 Hq0 Hr1 Hq1 Hr2 Hq2]
  · isplitl [Hr0 Hq0]; · (isplitl [Hr0] <;> iassumption)
    isplitl [Hr1 Hq1]; · (isplitl [Hr1] <;> iassumption)
    isplitl [Hr2] <;> iassumption
  iexact Ho

end Cert.Transpose

end
-- ==== Proof.Split.lean ====
/-
# The buffers and their pieces

The argument is its four column pieces, the result its four row pieces, and a scratch buffer its four slots. The
contents the run leaves in the result are named here, and shown to be what each row piece was given.
-/
module

public import proofs.«01_k».proof.Proof.Body

@[expose] public section

noncomputable section

namespace Cert.Transpose

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## Four disjoint sets of elements that make up a buffer -/

/-- The elements of a buffer, cut in four. -/
structure Quarters {T : Type} [DecidableEq T] [Fintype T] (K : Fin 4 → Finset T) : Prop where
  apart : ∀ t ∈ (Finset.univ : Finset (Fin 4)), ∀ t' ∈ (Finset.univ : Finset (Fin 4)), t ≠ t' → Disjoint (K t) (K t')
  whole : (Finset.univ : Finset (Fin 4)).biUnion K = Finset.univ

theorem cut {ℓ : Loc nD τ sig} {K : Fin 4 → Finset (Idx ℓ)} (h : Quarters K) (f : Buf (Elt F) ℓ) :
    (ℓ ↦{fullShare} f : sProp 𝕄) = bigSep Finset.univ fun t => ℓ ↦[K t]{fullShare} f := by
  rw [← pointsTo_biUnion Finset.univ K h.apart, h.whole]

theorem paste {ℓ : Loc nD τ sig} {K : Fin 4 → Finset (Idx ℓ)} (h : Quarters K) :
    (bigSep Finset.univ fun t => iprop(∃ f : Buf (Elt F) ℓ, ℓ ↦[K t]{fullShare} f) : sProp 𝕄)
      ⊢ iprop(∃ g : Buf (Elt F) ℓ, ℓ ↦{fullShare} g) := by
  rw [four]
  iintro ⟨⟨%f0, H0⟩, ⟨%f1, H1⟩, ⟨%f2, H2⟩, ⟨%f3, H3⟩⟩
  ihave H := (pointsTo_biUnion_join Finset.univ K ![f0, f1, f2, f3] f0 h.apart) $$ [H0 H1 H2 H3]
  · rw [four]
    isplitl [H0]; · iexact H0
    isplitl [H1]; · iexact H1
    isplitl [H2]; · iexact H2
    iexact H3
  icases H with ⟨%g, -, Hg⟩
  rw [h.whole]
  iexists g; iexact Hg

theorem xQ : Quarters (T := S2048x2048.Idx) fun j : Fin 4 => (xB j).view.set where
  apart j _ j' _ h := by
    rw [View.set_slice_whole, View.set_slice_whole, Finset.disjoint_left]
    intro i hi hi'
    have h1 : 512 * j.val ≤ (i 1).val ∧ (i 1).val < 512 * j.val + 512 := Rect.mem_set_unit.mp hi 1
    have h2 : 512 * j'.val ≤ (i 1).val ∧ (i 1).val < 512 * j'.val + 512 := Rect.mem_set_unit.mp hi' 1
    exact h (Fin.ext (by omega))
  whole := by
    refine Finset.eq_univ_iff_forall.mpr fun i => Finset.mem_biUnion.mpr ?_
    have h0 : (i 0).val < 2048 := (i 0).isLt
    have h1 : (i 1).val < 2048 := (i 1).isLt
    refine ⟨⟨(i 1).val / 512, by omega⟩, Finset.mem_univ _, ?_⟩
    rw [View.set_slice_whole]
    refine Rect.mem_set_unit.mpr fun a => ?_
    match a with
    | ⟨0, _⟩ => exact ⟨Nat.zero_le _, show (i 0).val < 0 + 2048 by omega⟩
    | ⟨1, _⟩ => exact ⟨show 512 * ((i 1).val / 512) ≤ (i 1).val by omega, show (i 1).val < 512 * ((i 1).val / 512) + 512 by omega⟩

theorem oQ : Quarters (T := S8192x512.Idx) fun r : Fin 4 => (oB r).view.set where
  apart r _ r' _ h := by
    rw [View.set_slice_whole, View.set_slice_whole, Finset.disjoint_left]
    intro i hi hi'
    have h1 : 2048 * r.val ≤ (i 0).val ∧ (i 0).val < 2048 * r.val + 2048 := Rect.mem_set_unit.mp hi 0
    have h2 : 2048 * r'.val ≤ (i 0).val ∧ (i 0).val < 2048 * r'.val + 2048 := Rect.mem_set_unit.mp hi' 0
    exact h (Fin.ext (by omega))
  whole := by
    refine Finset.eq_univ_iff_forall.mpr fun i => Finset.mem_biUnion.mpr ?_
    have h0 : (i 0).val < 8192 := (i 0).isLt
    have h1 : (i 1).val < 512 := (i 1).isLt
    refine ⟨⟨(i 0).val / 2048, by omega⟩, Finset.mem_univ _, ?_⟩
    rw [View.set_slice_whole]
    refine Rect.mem_set_unit.mpr fun a => ?_
    match a with
    | ⟨0, _⟩ => exact ⟨show 2048 * ((i 0).val / 2048) ≤ (i 0).val by omega, show (i 0).val < 2048 * ((i 0).val / 2048) + 2048 by omega⟩
    | ⟨1, _⟩ => exact ⟨Nat.zero_le _, show (i 1).val < 0 + 512 by omega⟩

theorem sQ : Quarters (T := S4x2048x512.Idx) fun s : Fin 4 => (sR s).set where
  apart s _ s' _ h := by
    rw [Finset.disjoint_left]
    intro i hi hi'
    have h1 : s.val ≤ (i 0).val ∧ (i 0).val < s.val + 1 := Rect.mem_set_unit.mp hi 0
    have h2 : s'.val ≤ (i 0).val ∧ (i 0).val < s'.val + 1 := Rect.mem_set_unit.mp hi' 0
    exact h (Fin.ext (by omega))
  whole := by
    refine Finset.eq_univ_iff_forall.mpr fun i => Finset.mem_biUnion.mpr ?_
    have h0 : (i 0).val < 4 := (i 0).isLt
    have h1 : (i 1).val < 2048 := (i 1).isLt
    have h2 : (i 2).val < 512 := (i 2).isLt
    refine ⟨⟨(i 0).val, h0⟩, Finset.mem_univ _, ?_⟩
    refine Rect.mem_set_unit.mpr fun a => ?_
    match a with
    | ⟨0, _⟩ => exact ⟨le_refl _, show (i 0).val < (i 0).val + 1 by omega⟩
    | ⟨1, _⟩ => exact ⟨Nat.zero_le _, show (i 1).val < 0 + 2048 by omega⟩
    | ⟨2, _⟩ => exact ⟨Nat.zero_le _, show (i 2).val < 0 + 512 by omega⟩

theorem vQ : Quarters (T := S4x2048x512.Idx) fun s : Fin 4 => (vB s).view.set := by
  have h : (fun s : Fin 4 => ((vB s).view.set : Finset S4x2048x512.Idx)) = fun s => (sR s).set := funext fun s => (vB_set s).trans (View.set_slice_whole _ _)
  rw [h]; exact sQ
theorem bQ : Quarters (T := S4x2048x512.Idx) fun s : Fin 4 => (bB s).view.set := by
  have h : (fun s : Fin 4 => ((bB s).view.set : Finset S4x2048x512.Idx)) = fun s => (sR s).set := funext fun s => (bB_set s).trans (View.set_slice_whole _ _)
  rw [h]; exact sQ

/-! ## Cutting and pasting the kernel's buffers -/

theorem around_0 (c : Dev nD) : arounds c 0 = zc c := rfl
theorem around_1 (c : Dev nD) : arounds c 1 = zc (peer 0 c) := rfl
theorem around_2 (c : Dev nD) : arounds c 2 = zc (peer 1 c) := rfl
theorem around_3 (c : Dev nD) : arounds c 3 = zc (peer 2 c) := rfl

/-- The argument of `c` is its column pieces, in the order of the slots. -/
theorem x_cut (c : Dev nD) :
    ((c : Thread nD τ).loc main_arg0 ↦{fullShare} m ((c : Thread nD τ).loc main_arg0) : sProp 𝕄)
      = bigSep Finset.univ fun s : Fin 4 => xPts m c (col c s) :=
  (cut xQ _).trans (bigSep_univ_equiv (cols c) fun j : Fin 4 => xPts m c j)

theorem v_cut (c : Dev nD) (f : Buf (Elt F) ((c : Thread nD τ).loc cc0_scratch0)) :
    ((c : Thread nD τ).loc cc0_scratch0 ↦{fullShare} f : sProp 𝕄) ⊢ bigSep Finset.univ fun s : Fin 4 => vAny c s :=
  (Entails.of_eq (cut vQ f)).trans (bigSep_mono fun s _ => by
    unfold vAny
    exact BI.BIClass.exists_intro (Φ := fun f => iprop((vB s).view.loc (c : Thread nD τ) ↦[(vB s).view.set]{fullShare} f)) f)
theorem b_cut (c : Dev nD) (f : Buf (Elt F) ((c : Thread nD τ).loc cc0_scratch1)) :
    ((c : Thread nD τ).loc cc0_scratch1 ↦{fullShare} f : sProp 𝕄) ⊢ bigSep Finset.univ fun s : Fin 4 => bAny c s :=
  (Entails.of_eq (cut bQ f)).trans (bigSep_mono fun s _ => by
    unfold bAny
    exact BI.BIClass.exists_intro (Φ := fun f => iprop((bB s).view.loc (c : Thread nD τ) ↦[(bB s).view.set]{fullShare} f)) f)
theorem v_paste (c : Dev nD) : (bigSep Finset.univ fun s : Fin 4 => (vAny c s : sProp 𝕄))
    ⊢ iprop(∃ f : Buf (Elt F) ((c : Thread nD τ).loc cc0_scratch0), (c : Thread nD τ).loc cc0_scratch0 ↦{fullShare} f) :=
  paste (ℓ := (c : Thread nD τ).loc cc0_scratch0) vQ
theorem b_paste (c : Dev nD) : (bigSep Finset.univ fun s : Fin 4 => (bAny c s : sProp 𝕄))
    ⊢ iprop(∃ f : Buf (Elt F) ((c : Thread nD τ).loc cc0_scratch1), (c : Thread nD τ).loc cc0_scratch1 ↦{fullShare} f) :=
  paste (ℓ := (c : Thread nD τ).loc cc0_scratch1) bQ

/-- The result of `c` is its row pieces: its own, and those of the three other places of its group. -/
theorem o_cut (c : Dev nD) (f : Buf (Elt F) ((c : Thread nD τ).loc main_v1)) :
    ((c : Thread nD τ).loc main_v1 ↦{fullShare} f : sProp 𝕄)
      ⊢ iprop(oAny c (zc c) ∗ bigSep Finset.univ fun k : Fin 3 => oAny c (zc (peer k c))) := by
  refine (Entails.of_eq (cut oQ f)).trans ((bigSep_mono (Ψ := fun r : Fin 4 => oAny c r) fun r _ => by
    unfold oAny
    exact BI.BIClass.exists_intro (Φ := fun f => iprop((oB r).view.loc (c : Thread nD τ) ↦[(oB r).view.set]{fullShare} f)) f).trans ?_)
  rw [bigSep_univ_equiv (arounds c), four, three, around_0, around_1, around_2, around_3]
  exact BI.Entails.refl _

/-! ## The result's contents -/

set_option backward.proofsInPublic true in
/-- The device of `c`'s group at place `r`. -/
def mate (c : Dev nD) (r : Fin 4) : Dev nD := ⟨c.val / 4 * 4 + r.val, by have h := c.isLt; have h' := r.isLt; simp only [nD] at h ⊢; omega⟩
theorem mate_self (c : Dev nD) : mate c (zc c) = c := by revert c; decide
theorem mate_peer (c : Dev nD) (k : Fin 3) : mate c (zc (peer k c)) = peer k c := by revert k c; decide

set_option backward.proofsInPublic true in
/-- The row piece an element of the result lies in, and where in it. -/
def rowOf (i : S8192x512.Idx) : Fin 4 := ⟨(i 0).val / 2048, by have h : (i 0).val < 8192 := (i 0).isLt; omega⟩
set_option backward.proofsInPublic true in
def inRow (i : S8192x512.Idx) : S2048x512.Idx
  | ⟨0, _⟩ => ⟨(i 0).val % 2048, Nat.mod_lt _ (by decide)⟩
  | ⟨1, _⟩ => ⟨(i 1).val, (i 1).isLt⟩

/-- What the run leaves in the result of `c`: row piece `r` is column piece `zc c` of the device at place `r`, rounded. -/
def outOf (c : Dev nD) : S8192x512.Idx → Elt F .bf16 := fun i => piece m (mate c (rowOf i)) (zc c) (inRow i)

theorem outOf_row (c : Dev nD) (r : Fin 4) : (oB r).view.read (Elt F) (outOf m c) = piece m (mate c r) (zc c) := by
  funext x
  show piece m (mate c (rowOf ((oR r).emb x))) (zc c) (inRow ((oR r).emb x)) = _
  have h0 : (x 0).val < 2048 := (x 0).isLt
  have hr := r.isLt
  have e0 : ((oR r).emb x 0).val = 2048 * r.val + 1 * (x 0).val := rfl
  have e1 : ((oR r).emb x 1).val = 0 + 1 * (x 1).val := rfl
  have hrow : rowOf ((oR r).emb x) = r := Fin.ext (by show ((oR r).emb x 0).val / 2048 = r.val; rw [e0]; omega)
  have hin : inRow ((oR r).emb x) = x := by
    funext a
    match a with
    | ⟨0, _⟩ => exact Fin.ext (by show ((oR r).emb x 0).val % 2048 = (x 0).val; rw [e0]; omega)
    | ⟨1, _⟩ => exact Fin.ext (by show ((oR r).emb x 1).val = (x 1).val; rw [e1]; omega)
  rw [hrow, hin]

/-- A row piece that holds what `outOf` has there is held at `outOf`. -/
theorem oHas_out (c : Dev nD) (r : Fin 4) :
    (oHas c r (piece m (mate c r) (zc c)) : sProp 𝕄) ⊢ ((c : Thread nD τ).loc main_v1 ↦[(oB r).view.set]{fullShare} outOf m c) := by
  unfold oHas owns
  iintro ⟨%f, %hf, H⟩
  rw [← outOf_row] at hf
  iapply (Entails.of_eq (pointsTo_congr (ℓ := (c : Thread nD τ).loc main_v1) (I := (oB r).view.set) (q := fullShare) (f := f) (g := outOf m c) fun i hi => by
    obtain ⟨x, -, rfl⟩ := Finset.mem_map.mp hi
    exact congrFun hf x))
  iexact H

/-- The row pieces as the run leaves them make up the result. -/
theorem o_paste (c : Dev nD) :
    iprop(oHas c (zc c) (piece m c (zc c)) ∗ bigSep Finset.univ fun k : Fin 3 => arrPay m c k)
      ⊢ ((c : Thread nD τ).loc main_v1 ↦{fullShare} outOf m c : sProp 𝕄) := by
  refine BI.Entails.trans ?_ (Entails.of_eq (cut (ℓ := (c : Thread nD τ).loc main_v1) oQ (outOf m c)).symm)
  refine BI.Entails.trans ?_ (bigSep_mono fun r _ => oHas_out m c r)
  rw [bigSep_univ_equiv (arounds c), four, bigSep_univ_equiv Fin.revPerm, three]
  show iprop(oHas c (zc c) (piece m c (zc c)) ∗ arrPay m c (Fin.rev 0) ∗ arrPay m c (Fin.rev 1) ∗ arrPay m c (Fin.rev 2))
    ⊢ iprop(oHas c (zc c) (piece m (mate c (zc c)) (zc c)) ∗ oHas c (zc (peer 0 c)) (piece m (mate c (zc (peer 0 c))) (zc c))
      ∗ oHas c (zc (peer 1 c)) (piece m (mate c (zc (peer 1 c))) (zc c)) ∗ oHas c (zc (peer 2 c)) (piece m (mate c (zc (peer 2 c))) (zc c)))
  unfold arrPay
  simp only [Fin.rev_rev, mate_self, mate_peer]
  exact BI.Entails.refl _

end Cert.Transpose

end
-- ==== Proof.Deal.lean ====
/-
# What the devices are dealt

Before the kernel starts, the shared semaphores of all devices are put under the schedule at once, and the rights to pay
them are dealt to the devices that will pay: a right minted with a semaphore of `c` goes to the device whose signal or
copy reaches it. The credit each device waits against is counted from what the sixteen devices owe.
-/
module

public import proofs.«01_k».proof.Proof.Split

@[expose] public section

noncomputable section

namespace Cert.Transpose

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Seven in a row -/

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A family over a device's shared semaphores: the barrier's, the departures', the arrivals'. -/
theorem by_kind (c : Dev nD) (Φ : GSem nD τ sig → sProp 𝕄) :
    (bigSep Finset.univ fun i : Fin 7 => Φ (kcell (c, i)))
      = iprop(Φ (barCell c) ∗ (bigSep Finset.univ fun k : Fin 3 => Φ (seCell c k)) ∗ bigSep Finset.univ fun k : Fin 3 => Φ (reCell c k)) := by
  rw [seven, three, three]
  show iprop(Φ (barCell c) ∗ Φ (seCell c 0) ∗ Φ (seCell c 1) ∗ Φ (seCell c 2) ∗ Φ (reCell c 0) ∗ Φ (reCell c 1) ∗ Φ (reCell c 2)) = _
  refine BI.Entails.antisymm (show (_ : sProp 𝕄) ⊢ _ from ?_) (show (_ : sProp 𝕄) ⊢ _ from ?_)
  · iintro ⟨H0, H1, H2, H3, H4, H5, H6⟩
    isplitl [H0]; · iexact H0
    isplitl [H1 H2 H3]
    · isplitl [H1]; · iexact H1
      isplitl [H2]; · iexact H2
      iexact H3
    isplitl [H4]; · iexact H4
    isplitl [H5]; · iexact H5
    iexact H6
  · iintro ⟨H0, ⟨H1, H2, H3⟩, H4, H5, H6⟩
    isplitl [H0]; · iexact H0
    isplitl [H1]; · iexact H1
    isplitl [H2]; · iexact H2
    isplitl [H3]; · iexact H3
    isplitl [H4]; · iexact H4
    isplitl [H5]; · iexact H5
    iexact H6

/-! ## The shared semaphores and the rights minted with them -/

theorem csem_injective : Function.Injective csem := by decide

theorem kcell_injective : Function.Injective (kcell : Dev nD × Fin 7 → GSem nD τ sig) := by
  rintro ⟨a, i⟩ ⟨b, j⟩ h
  have hd : a = b := congrArg (fun g : GSem nD τ sig => g.1.1) h
  have hs : i = j := csem_injective (congrArg Prod.snd h)
  rw [hd, hs]

/-- All shared semaphores. -/
def cells : Finset (GSem nD τ sig) := Finset.univ.map ⟨kcell, kcell_injective⟩

/-- A device's rights come in three kinds of three: to signal its barrier, to pay a departure, to pay an arrival. -/
def rightSem : Fin 3 → Fin 3 → SemLoc sig := ![fun _ => .reg barS, fun k => .dma (seS k), fun k => .dma (reS k)]
def rightDuty : Fin 3 → Fin 3 → Fin 3 := ![fun k => k, fun _ => 0, fun _ => 0]

theorem right_inj : ∀ j k j' k' : Fin 3, rightSem j k = rightSem j' k' → rightDuty j k = rightDuty j' k' → j = j' ∧ k = k' := by decide

def right (x : Dev nD × Fin 3 × Fin 3) : GSem nD τ sig × ℕ × Fin 3 :=
  (((x.1 : Thread nD τ), rightSem x.2.1 x.2.2), 0, rightDuty x.2.1 x.2.2)

theorem right_injective : Function.Injective right := by
  rintro ⟨a, j, k⟩ ⟨b, j', k'⟩ h
  have hd : a = b := congrArg (fun x : GSem nD τ sig × ℕ × Fin 3 => x.1.1.1) h
  obtain ⟨h1, h2⟩ := right_inj j k j' k' (congrArg (fun x : GSem nD τ sig × ℕ × Fin 3 => x.1.2) h)
    (congrArg (fun x : GSem nD τ sig × ℕ × Fin 3 => x.2.2) h)
  rw [hd, h1, h2]

def rights : Finset (GSem nD τ sig × ℕ × Fin 3) := Finset.univ.map ⟨right, right_injective⟩

/-- What the launch starts from: the pipeline's own state, the devices' rounds, and nothing of the local copies'. -/
def u₀ : UU :=
  (initOf (Pipeline.cells cfgs cellOf_inj) (Pipeline.launchToks cfgs cellOf_inj), (initOf cells rights, 1))

/-- The rights to pay device `c`'s own semaphores. -/
def minted (c : Dev nD) : sProp 𝕄 :=
  iprop((bigSep Finset.univ fun k : Fin 3 => dutyTok ER (barCell c) 0 k)
    ∗ (bigSep Finset.univ fun k : Fin 3 => dutyTok ER (seCell c k) 0 0)
    ∗ bigSep Finset.univ fun k : Fin 3 => dutyTok ER (reCell c k) 0 0)

/-- What device `c`'s semaphores start with. -/
def G (c : Dev nD) : sProp 𝕄 :=
  iprop((bigSep Finset.univ fun i : Fin 7 => roundState ER (sched m) (kcell (c, i)) 0)
    ∗ (bigSep Finset.univ fun i : Fin 7 => atPos ER (kcell (c, i)) 0 ∅ 0)
    ∗ (bigSep Finset.univ fun i : Fin 7 => reached ER (kcell (c, i)) 0)
    ∗ minted c)

theorem fund_all : BI.own (ER (initOf cells rights)) ⊢ (|==> bigSep Finset.univ (G m) : sProp 𝕄) := by
  have hC (Φ : GSem nD τ sig → sProp 𝕄) :
      bigSep cells Φ = bigSep Finset.univ fun c : Dev nD => bigSep Finset.univ fun i : Fin 7 => Φ (kcell (c, i)) := by
    unfold cells; rw [bigSep_map, bigSep_univ_prod]; rfl
  have hR : bigSep rights (fun x => (dutyTok ER x.1 x.2.1 x.2.2 : sProp 𝕄)) = bigSep Finset.univ fun c : Dev nD => minted c := by
    unfold rights; rw [bigSep_map, bigSep_univ_prod]
    refine bigSep_congr fun c _ => ?_
    rw [bigSep_univ_prod, three]; rfl
  iintro H
  imod (Rounds.fund ER (sched m) cells rights) $$ H with ⟨Hst, Hre, Hat, Hri⟩
  imodintro
  ihave Hst := (Entails.of_eq (hC fun g => roundState ER (sched m) g 0)) $$ Hst
  ihave Hre := (Entails.of_eq (hC fun g => reached ER g 0)) $$ Hre
  ihave Hat := (Entails.of_eq (hC fun g => atPos ER g 0 ∅ 0)) $$ Hat
  ihave Hri := (Entails.of_eq hR) $$ Hri
  unfold G
  simp only [bigSep_sep']
  isplitl [Hst]; · iexact Hst
  isplitl [Hat]; · iexact Hat
  isplitl [Hre]; · iexact Hre
  iexact Hri

theorem fund_launch : (ownU u₀ : sProp 𝕄)
    ⊢ |={Set.univ}=> iprop(BI.own (EP (initOf (Pipeline.cells cfgs cellOf_inj) (Pipeline.launchToks cfgs cellOf_inj)))
        ∗ bigSep Finset.univ (G m)) := by
  unfold u₀
  iintro Hu
  ihave H := (ownU_pair _ _) $$ Hu
  icases H with ⟨HP, HX⟩
  ihave HX := (own_pair_emb embR (initOf cells rights) (1 : Counters)) $$ HX
  icases HX with ⟨HX, -⟩
  imod (show BI.own (((Emb.inl : Emb UB (UB × Counters)).trans embR) (initOf cells rights)) ⊢ (|==> bigSep Finset.univ (G m) : sProp 𝕄)
    from fund_all m) $$ HX with HG
  imodintro
  isplitl [HP] <;> iassumption

/-! ## The semaphores at rest -/

/-- The kernel's own semaphores: those of the local copies, of the departures, of the arrivals. -/
abbrev osem : Fin 12 → SemLoc sig := fun q => .dma q

/-- Those no step uses. -/
abbrev spare (c : Dev nD) : sProp 𝕄 :=
  iprop(semVal ((c : Thread nD τ), .dma (⟨4, by decide⟩ : DmaSem sig)) 0 ∗ semVal ((c : Thread nD τ), .dma (⟨8, by decide⟩ : DmaSem sig)) 0)

theorem own_sems (c : Dev nD) :
    (Pipeline.ownSems0 (Ix := Unit) (Name := ℕ) (U := UU) (Lvl := ℕ) (Val := Elt F) (τ := τ) osem c : sProp 𝕄)
      = iprop((bigSep Finset.univ fun s : Fin 4 => semVal ((c : Thread nD τ), .dma (cpS s)) 0) ∗ spare c
        ∗ (bigSep Finset.univ fun k : Fin 3 => semVal (seCell c k) 0) ∗ bigSep Finset.univ fun k : Fin 3 => semVal (reCell c k) 0) := by
  rw [Pipeline.ownSems0_eq_of_list c osem [0, 1, 2, 3, 4, 8, 5, 6, 7, 9, 10, 11] (by decide) (by decide), three, three, four]
  show iprop(semVal _ 0 ∗ semVal _ 0 ∗ semVal _ 0 ∗ semVal _ 0 ∗ semVal _ 0 ∗ semVal _ 0 ∗ semVal _ 0 ∗ semVal _ 0 ∗ semVal _ 0
    ∗ semVal _ 0 ∗ semVal _ 0 ∗ semVal _ 0) = _
  refine BI.Entails.antisymm (show (_ : sProp 𝕄) ⊢ _ from ?_) (show (_ : sProp 𝕄) ⊢ _ from ?_)
  · iintro ⟨H0, H1, H2, H3, H4, H8, H5, H6, H7, H9, H10, H11⟩
    isplitl [H0 H1 H2 H3]
    · isplitl [H0]; · iexact H0
      isplitl [H1]; · iexact H1
      isplitl [H2]; · iexact H2
      iexact H3
    isplitl [H4 H8]
    · isplitl [H4]; · iexact H4
      iexact H8
    isplitl [H5 H6 H7]
    · isplitl [H5]; · iexact H5
      isplitl [H6]; · iexact H6
      iexact H7
    isplitl [H9]; · iexact H9
    isplitl [H10]; · iexact H10
    iexact H11
  · iintro ⟨⟨H0, H1, H2, H3⟩, ⟨H4, H8⟩, ⟨H5, H6, H7⟩, H9, H10, H11⟩
    isplitl [H0]; · iexact H0
    isplitl [H1]; · iexact H1
    isplitl [H2]; · iexact H2
    isplitl [H3]; · iexact H3
    isplitl [H4]; · iexact H4
    isplitl [H8]; · iexact H8
    isplitl [H5]; · iexact H5
    isplitl [H6]; · iexact H6
    isplitl [H7]; · iexact H7
    isplitl [H9]; · iexact H9
    isplitl [H10]; · iexact H10
    iexact H11

/-- The barrier semaphore is the one that outlives the kernel. -/
theorem lasting_sems (c : Dev nD) : (unscopedSems0 c : sProp 𝕄) = semVal (barCell c) 0 := by
  unfold unscopedSems0; rw [bigSep_eq_bigSepL_of_eq [SemLoc.reg barS] (by decide) (by decide)]; rfl

/-! ## The dealing -/

/-- The semaphores that stay with `c` alone. -/
def alone (c : Dev nD) : sProp 𝕄 := iprop((bigSep Finset.univ fun s : Fin 4 => semVal ((c : Thread nD τ), .dma (cpS s)) 0) ∗ spare c)

/-- The rights device `c` will use: to signal the others' barriers, to pay its departures, to pay the others' arrivals. -/
def pays (c : Dev nD) : sProp 𝕄 :=
  iprop((bigSep Finset.univ fun k : Fin 3 => dutyTok ER (barCell (peer k c)) 0 k)
    ∗ (bigSep Finset.univ fun k : Fin 3 => dutyTok ER (seCell c k) 0 0)
    ∗ bigSep Finset.univ fun k : Fin 3 => dutyTok ER (reCell (peer k c) k) 0 0)

/-- What of the schedule is `c`'s own: where it stands at its semaphores, the rights it will use, and its other semaphores. -/
def mine (c : Dev nD) : sProp 𝕄 :=
  iprop((bigSep Finset.univ fun i : Fin 7 => atPos ER (kcell (c, i)) 0 ∅ 0) ∗ pays c ∗ alone c)

/-- What device `c` is dealt. -/
def G' (c : Dev nD) : sProp 𝕄 := iprop(∃ K, records m K ∗ mine c)

/-- A family indexed by devices and distances, re-indexed along the distances. -/
theorem along (Φ : Dev nD → Fin 3 → sProp 𝕄) :
    (bigSep Finset.univ fun c : Dev nD => bigSep Finset.univ fun k : Fin 3 => Φ c k)
      = bigSep Finset.univ fun c : Dev nD => bigSep Finset.univ fun k : Fin 3 => Φ (peer k c) k := by
  simp only [three, bigSep_sep']
  rw [bigSep_univ_equiv (shift 0) (fun c : Dev nD => Φ c 0), bigSep_univ_equiv (shift 1) (fun c : Dev nD => Φ c 1),
    bigSep_univ_equiv (shift 2) (fun c : Dev nD => Φ c 2)]
  rfl

theorem dealt : (bigSep Finset.univ fun c : Dev nD => (minted c : sProp 𝕄)) = bigSep Finset.univ fun c : Dev nD => pays c := by
  unfold minted pays
  rw [bigSep_sep', bigSep_sep', bigSep_sep', bigSep_sep', along fun c k => dutyTok ER (barCell c) 0 k, along fun c k => dutyTok ER (reCell c k) 0 0]

/-- One device's semaphores put under the schedule. -/
theorem install (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 7 => iprop(∃ κ : ℕ, cellInv ER (sched m) κ (kcell (c, i))))
          ∗ (bigSep Finset.univ fun i : Fin 7 => atPos ER (kcell (c, i)) 0 ∅ 0)
          ∗ (bigSep Finset.univ fun i : Fin 7 => reached ER (kcell (c, i)) 0) ∗ minted c ∗ alone c) := by
  have hall : iprop((bigSep Finset.univ fun i : Fin 7 => semVal (kcell (c, i)) 0) ∗ bigSep Finset.univ fun i : Fin 7 => roundState ER (sched m) (kcell (c, i)) 0)
      ⊢ (|={Set.univ}=> bigSep Finset.univ fun i : Fin 7 => iprop(∃ κ : ℕ, cellInv ER (sched m) κ (kcell (c, i))) : sProp 𝕄) := by
    rw [← bigSep_sep']
    exact (bigSep_mono fun i _ => (Rounds.body_intro ER (sched m) (kcell (c, i))).trans inv_alloc).trans (bigSep_fupd _ _)
  unfold G alone
  rw [own_sems, lasting_sems]
  iintro ⟨⟨Hcp, Hsp, Hse, Hre⟩, Hb, Hst, Hat, Hrc, Hm⟩
  ihave Hv := (Entails.of_eq (by_kind c fun g => semVal g 0).symm) $$ [Hb Hse Hre]
  · isplitl [Hb]; · iexact Hb
    isplitl [Hse] <;> iassumption
  imod hall $$ [Hv Hst] with HI
  · isplitl [Hv] <;> iassumption
  imodintro
  isplitl [HI]; · iexact HI
  isplitl [Hat]; · iexact Hat
  isplitl [Hrc]; · iexact Hrc
  isplitl [Hm]; · iexact Hm
  isplitl [Hcp] <;> iassumption

/-- What all may use is passed to each. -/
theorem shared_with_all {I : Type} [DecidableEq I] {S : Finset I} {R : sProp 𝕄} [BI.Persistent R] {Φ : I → sProp 𝕄} :
    iprop(R ∗ bigSep S Φ) ⊢ bigSep S fun i => iprop(R ∗ Φ i) := by
  rw [bigSep_sep']
  exact BI.sep_mono (BI.bigSep_of_persistent S R) (BI.Entails.refl _)

theorem gather :
    (bigSep Finset.univ fun c : Dev nD => iprop((bigSep Finset.univ fun i : Fin 7 => iprop(∃ κ : ℕ, cellInv ER (sched m) κ (kcell (c, i))))
          ∗ (bigSep Finset.univ fun i : Fin 7 => atPos ER (kcell (c, i)) 0 ∅ 0)
          ∗ (bigSep Finset.univ fun i : Fin 7 => reached ER (kcell (c, i)) 0) ∗ minted c ∗ alone c) : sProp 𝕄)
      ⊢ bigSep Finset.univ (G' m) := by
  rw [bigSep_sep', bigSep_sep', bigSep_sep', bigSep_sep', dealt,
    ← bigSep_univ_prod (fun ci : Dev nD × Fin 7 => iprop(∃ κ : ℕ, cellInv ER (sched m) κ (kcell ci))),
    ← bigSep_univ_prod (fun ci : Dev nD × Fin 7 => (reached ER (kcell ci) 0 : sProp 𝕄))]
  iintro ⟨HI, Hat, #Hrc, Hp, Hal⟩
  ihave HI := (BI.bigSep_exists_pi Finset.univ (fun (ci : Dev nD × Fin 7) (κ : ℕ) => (cellInv ER (sched m) κ (kcell ci) : sProp 𝕄))) $$ HI
  icases HI with ⟨%K, #HI⟩
  iapply ((shared_with_all (R := records m K) (Φ := fun c : Dev nD => mine c)).trans (bigSep_mono fun c _ => by
    unfold G'
    exact BI.BIClass.exists_intro (Φ := fun K => iprop(records m K ∗ mine c)) K))
  isplitr
  · unfold records
    isplitl; · iexact HI
    iexact Hrc
  · unfold mine
    simp only [bigSep_sep']
    isplitl [Hat]; · iexact Hat
    isplitl [Hp] <;> iassumption

/-- All devices' semaphores put under the schedule, and the rights dealt. -/
theorem glob :
    (bigSep Finset.univ fun c => iprop(Pipeline.ownSems0 (Ix := Unit) (Name := ℕ) (U := UU) (Lvl := ℕ) (Val := Elt F) (τ := τ) osem c
        ∗ unscopedSems0 c ∗ G m c) : sProp 𝕄)
      ⊢ |={Set.univ}=> bigSep Finset.univ (G' m) :=
  ((bigSep_mono fun c _ => install m c).trans (bigSep_fupd _ _)).trans (BI.fupd_mono (gather m))

/-! ## The credit -/

theorem bar_ne_re (a b : Dev nD) (k : Fin 3) : barCell a ≠ reCell b k := fun h =>
  (show ∀ k : Fin 3, SemLoc.reg (sig := sig) barS ≠ .dma (reS k) from by decide) k (congrArg Prod.snd h)
theorem bar_inj {a b : Dev nD} (h : barCell a = barCell b) : a = b := congrArg (fun g : GSem nD τ sig => g.1.1) h
theorem re_inj {a b : Dev nD} {j k : Fin 3} (h : reCell a j = reCell b k) : a = b ∧ j = k :=
  ⟨congrArg (fun g : GSem nD τ sig => g.1.1) h, (show ∀ j k : Fin 3, SemLoc.dma (sig := sig) (reS j) = .dma (reS k) → j = k from by decide) j k (congrArg Prod.snd h)⟩

theorem bt_bar (d c : Dev nD) (k : Fin 3) : bt d k (barCell c) () = if d = peer k.rev c then 1 else 0 := by
  unfold bt
  rw [tallyAt_apply]
  by_cases h : d = peer k.rev c
  · subst h; rw [rev_peer, if_pos ⟨rfl, rfl⟩, if_pos rfl]
  · rw [if_neg h, if_neg]
    rintro ⟨hc, -⟩
    exact h (by rw [bar_inj hc, peer_rev])
theorem rt_bar (d c : Dev nD) (s : Fin 3) : rt d s (barCell c) () = 0 := by
  unfold rt; rw [tallyAt_ne_cell (bar_ne_re _ _ _)]; rfl
theorem bt_re (d c : Dev nD) (j k : Fin 3) : bt d j (reCell c k) () = 0 := by
  unfold bt; rw [tallyAt_ne_cell fun h => bar_ne_re _ _ _ h.symm]; rfl
theorem at_re (d c : Dev nD) (j k : Fin 3) :
    tallyAt (reCell (peer j d) j) () NB (reCell c k) () = if j = k then (if d = peer k.rev c then NB else 0) else 0 := by
  rw [tallyAt_apply]
  by_cases hj : j = k
  · subst hj
    rw [if_pos rfl]
    by_cases h : d = peer j.rev c
    · subst h; rw [rev_peer, if_pos ⟨rfl, rfl⟩, if_pos rfl]
    · rw [if_neg h, if_neg]
      rintro ⟨hc, -⟩
      exact h (by rw [(re_inj hc).1, peer_rev])
  · rw [if_neg hj, if_neg]
    rintro ⟨hc, -⟩
    exact hj (re_inj hc).2.symm

theorem owed_at (d : Dev nD) (g : GSem nD τ sig) :
    O₀ d g () = (∑ s : Fin 3, rt d s g ()) + ∑ k : Fin 3, bt d k g () := by
  rw [Fin.sum_univ_three, Fin.sum_univ_three]
  show 0 + rt d 2 g () + rt d 1 g () + rt d 0 g () + bt d 2 g () + bt d 1 g () + bt d 0 g () = _
  omega

theorem owed_bar (d c : Dev nD) : O₀ d (barCell c) () = ∑ k : Fin 3, if d = peer k.rev c then 1 else 0 := by
  rw [owed_at, Finset.sum_congr rfl fun s _ => rt_bar d c s, Finset.sum_congr rfl fun k _ => bt_bar d c k, Finset.sum_const_zero, Nat.zero_add]

theorem owed_re (d c : Dev nD) (k : Fin 3) : O₀ d (reCell c k) () = if d = peer k.rev c then NB else 0 := by
  have h : (∑ s : Fin 3, rt d s (reCell c k) ()) = ∑ j : Fin 3, tallyAt (reCell (peer j d) j) () NB (reCell c k) () :=
    Equiv.sum_comp (hops d) fun j => tallyAt (reCell (peer j d) j) () NB (reCell c k) ()
  rw [owed_at, Finset.sum_congr rfl fun j _ => bt_re d c j k, Finset.sum_const_zero, Nat.add_zero, h, Finset.sum_congr rfl fun j _ => at_re d c j k,
    Finset.sum_ite_eq' Finset.univ k, if_pos (Finset.mem_univ _)]

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (peer (Fin.rev k) c) fun _ => 1).trans (if_pos (Finset.mem_univ _))]
  rfl
theorem credit_re (c : Dev nD) (k : Fin 3) :
    tallyOn (reCell c k) (launchCredit (Pipeline.owing O₀) 0 (reCell c k)) = (tallyAt (reCell c k) () NB : CellTallies nD τ sig Unit) := by
  unfold tallyAt; refine congrArg _ (Finsupp.ext fun u => ?_); cases u
  rw [Pipeline.launchCredit_owing, Finsupp.single_eq_same, Finset.sum_congr rfl fun d _ => owed_re d c k,
    Finset.sum_ite_eq' Finset.univ (peer k.rev c) fun _ => NB, if_pos (Finset.mem_univ _)]

/-- The semaphores a device waits at for others' signals and copies. -/
def waitSem : Fin 4 → SemLoc sig := ![.reg barS, .dma (reS 0), .dma (reS 1), .dma (reS 2)]
theorem waitSem_injective : Function.Injective waitSem := by decide

theorem creds (c : Dev nD) :
    (Pipeline.launchCred O₀ c : sProp 𝕄)
      ⊢ iprop(cred (tallyAt (barCell c) () 3) ∗ bigSep Finset.univ fun k : Fin 3 => cred (tallyAt (reCell c k) () NB)) := by
  unfold Pipeline.launchCred
  refine (BI.bigSep_subset (t := Finset.univ.map ⟨waitSem, waitSem_injective⟩) (Finset.subset_univ _)).trans ?_
  rw [bigSep_map, four, three, ← credit_bar, ← credit_re, ← credit_re, ← credit_re]
  exact BI.Entails.refl _

end Cert.Transpose

end
-- ==== Proof.Launch.lean ====
/-
# The whole program's run

Every device holds its argument, its result and what it was dealt; its run of the kernel turns these into the finished
result and semaphores at zero. From any memory every execution of the sixteen devices ends, with the argument as it was,
the result at `outOf`, and every semaphore at zero.
-/
module

public import proofs.«01_k».proof.Proof.Deal
public import Idealize.ShloMosaic.Lib.Pipeline.CollectiveSegs

@[expose] public section

noncomputable section

namespace Cert.Transpose

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Before and after the kernel -/

/-- The argument of `c` at its launch contents, whole. -/
abbrev argPts (c : Dev nD) : sProp 𝕄 := (c : Thread nD τ).loc main_arg0 ↦{fullShare} m ((c : Thread nD τ).loc main_arg0)
/-- The result of `c` as the run leaves it, whole. -/
abbrev resPts (c : Dev nD) : sProp 𝕄 := (c : Thread nD τ).loc main_v1 ↦{fullShare} outOf m c
/-- The two scratch buffers, at any contents. -/
abbrev scratch (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f))

/-- What device `c` starts from beside its scratch buffers. -/
def start (c : Dev nD) : sProp 𝕄 :=
  iprop(G' m c ∗ levAts L lv ∗ (cred (tallyAt (barCell c) () 3) ∗ bigSep Finset.univ fun k : Fin 3 => cred (tallyAt (reCell c k) () NB))
    ∗ argPts m c ∗ (c : Thread nD τ).loc main_v1 ↦{fullShare} m ((c : Thread nD τ).loc main_v1))

/-- What it hands on at its end beside its scratch buffers and the kernel's own semaphores. -/
def result (c : Dev nD) : sProp 𝕄 := iprop(semVal (barCell c) 0 ∗ argPts m c ∗ resPts m c)

def Φ₀ (c : Dev nD) : sProp 𝕄 := iprop(start m c ∗ scratch c)
def Φ₁ (c : Dev nD) : sProp 𝕄 :=
  iprop(result m c ∗ Pipeline.ownSems0 (Ix := Unit) (Name := ℕ) (U := UU) (Lvl := ℕ) (Val := Elt F) (τ := τ) osem c ∗ scratch c)

/-- The families by distance, listed by slot. -/
theorem by_hop (c : Dev nD) (Φ : Fin 3 → sProp 𝕄) :
    (bigSep Finset.univ fun k : Fin 3 => Φ k) = bigSep Finset.univ fun s : Fin 3 => Φ (hop c s) := bigSep_univ_equiv (hops c) Φ

theorem before_intro (c : Dev nD) : iprop(Φ₀ m c ∗ debt c (O₀ c)) ⊢ iprop(∃ K, before m K c ∗ spare c) := by
  unfold Φ₀ start G' mine alone pays
  iintro ⟨⟨⟨⟨%K, HR, Hat, ⟨Hg, Hse, Hre⟩, Hcp, Hsp⟩, Hlev, ⟨Hcb, Hcr⟩, Hx, Ho⟩, ⟨%f, Hv⟩, ⟨%g, Hb⟩⟩, Hd⟩
  ihave Hat := (Entails.of_eq (by_kind c fun g => atPos ER g 0 ∅ 0)) $$ Hat
  icases Hat with ⟨Hab, Has, Har⟩
  ihave Hse := (Entails.of_eq (by_hop c fun k => dutyTok ER (seCell c k) 0 0)) $$ Hse
  ihave Hre := (Entails.of_eq (by_hop c fun k => dutyTok ER (reCell (peer k c) k) 0 0)) $$ Hre
  ihave Has := (Entails.of_eq (by_hop c fun k => atPos ER (seCell c k) 0 ∅ 0)) $$ Has
  ihave Hx := (Entails.of_eq (x_cut m c)) $$ Hx
  ihave Hv := (v_cut c f) $$ Hv
  ihave Hb := (b_cut c g) $$ Hb
  ihave Ho := (o_cut c _) $$ Ho
  icases Ho with ⟨Ho, Hp⟩
  iexists K
  unfold before loads greets sends takes
  simp only [bigSep_sep']
  isplitr [Hsp]
  · isplitl [HR]; · iexact HR
    isplitl [Hlev]; · iexact Hlev
    isplitl [Hd]; · iexact Hd
    isplitl [Hx Hv Hcp]
    · isplitl [Hx]; · iexact Hx
      isplitl [Hv] <;> iassumption
    isplitl [Hb]; · iexact Hb
    isplitl [Hg Hp]
    · isplitl [Hg] <;> iassumption
    isplitl [Hcb Hab]
    · isplitl [Hcb] <;> iassumption
    isplitl [Hse Hre Has]
    · isplitl [Hse]; · iexact Hse
      isplitl [Hre] <;> iassumption
    isplitl [Hcr Har]
    · isplitl [Hcr] <;> iassumption
    iexact Ho
  · iexact Hsp

theorem after_elim (c : Dev nD) : iprop(after m c ∗ spare c) ⊢ iprop(Φ₁ m c ∗ debt c 0) := by
  unfold after loads Φ₁ result
  rw [own_sems]
  simp only [bigSep_sep']
  iintro ⟨⟨Hd, ⟨Hx, Hv, Hcp⟩, Hb, Hbar, Hse, ⟨Hre, Ha⟩, Ho⟩, Hsp⟩
  ihave Hse := (Entails.of_eq (by_hop c fun k => semVal (seCell c k) 0).symm) $$ Hse
  ihave Hx := (Entails.of_eq (x_cut m c).symm) $$ Hx
  ihave Hv := (v_paste c) $$ Hv
  ihave Hb := (b_paste c) $$ Hb
  ihave Ho := (o_paste m c) $$ [Ho Ha]
  · isplitl [Ho] <;> iassumption
  isplitr [Hd]
  · isplitl [Hbar Hx Ho]
    · isplitl [Hbar]; · iexact Hbar
      isplitl [Hx] <;> iassumption
    isplitl [Hcp Hsp Hse Hre]
    · isplitl [Hcp]; · iexact Hcp
      isplitl [Hsp]; · iexact Hsp
      isplitl [Hse] <;> iassumption
    isplitl [Hv] <;> iassumption
  · iexact Hd

/-! ## The kernel's one point -/

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- What is owed at the point's two ends, as the pipeline writes it. -/
theorem owes_first (c : Dev nD) : ((dats m 0 c).owesAt () (t0_0.castSucc) : sProp 𝕄) ⊢ debt c (O₀ c) := by
  unfold Pipeline.Dat.owesAt Pipeline.owesWithin debt
  iintro ⟨%W, -, H⟩
  iexists W; iexact H
theorem owes_last (c : Dev nD) : (debt c 0 : sProp 𝕄) ⊢ (dats m 0 c).owesAt () (t0_0.succ) := by
  unfold Pipeline.Dat.owesAt Pipeline.owesWithin debt
  iintro ⟨%W, H⟩
  iexists W
  isplitr; · ipureintro; exact fun _ _ => Or.inl trivial
  iexact H

/-- The kernel has no windows. -/
theorem no_windows (Φ : Fin cfg0.W → sProp 𝕄) : bigSep Finset.univ Φ = iprop(emp) := bigSep_empty (Φ := Φ)

theorem body_obligation (c : Dev nD) : Pipeline.BodyObligation (dats m 0 c) (defs₀ (F := F)) 𝒱₀ () Set.univ := fun t => by
  rw [fin_N0 t, no_windows, no_windows]
  show iprop(Φ₀ m c ∗ (dats m 0 c).owesAt () t0_0.castSucc ∗ emp)
    ⊢ Runs c (bodyAt0 (F := F) t0_0) fun _ => iprop(Φ₁ m c ∗ (dats m 0 c).owesAt () t0_0.succ ∗ emp)
  iintro ⟨Hs, Hd, -⟩
  ihave Hd := (owes_first m c) $$ Hd
  ihave H := (before_intro m c) $$ [Hs Hd]
  · isplitl [Hs] <;> iassumption
  icases H with ⟨%K, Hb, Hsp⟩
  iapply (run_body m K c fun _ => iprop(Φ₁ m c ∗ (dats m 0 c).owesAt () t0_0.succ ∗ emp))
  isplitl [Hb]; · iexact Hb
  iintro Ha
  ihave H := (after_elim m c) $$ [Ha Hsp]
  · isplitl [Ha] <;> iassumption
  icases H with ⟨H1, Hd⟩
  isplitl [H1]; · iexact H1
  isplitl [Hd]; · iapply (owes_last m c); iexact Hd
  iempintro

/-! ## The launch -/

theorem ownSemFacts : Pipeline.OwnSemFacts cfg0.spec osem := by decide

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hcr := (creds (F := F) c) $$ Hcr
  imodintro
  unfold start
  isplitl
  · isplitl [HG]; · iexact HG
    isplitl [Hlev]; · iexact Hlev
    isplitl [Hcr]; · iexact Hcr
    isplitl [Hx] <;> iassumption
  · iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem last_elim (c : Dev nD) :
    (dats m 0 c).Φ (Fin.last cfg0.N) ⊢ iprop(result m c ∗ Pipeline.ownSems0 osem c ∗ Pipeline.scopedRest cfg0.spec c) := by
  rw [show (dats m 0 c).Φ (Fin.last cfg0.N) = Φ₁ m c from rfl, scopedRest0_eq]
  unfold Φ₁
  exact BI.Entails.refl _

theorem waits (c : Dev nD) : (levAts L lv : sProp 𝕄) ⊢ Pipeline.cellsWaits cfgs (dats m) () 0 c :=
  Pipeline.cellsWaits_intro cfgs (dats m) () 0 c fun w => w.elim0

/-- What is read off the memory of device `c` at the end. -/
def Reads (c : Dev nD) (s : MemSt nD τ sig (Elt F)) : Prop :=
  s.mem ((c : Thread nD τ).loc main_arg0) = m ((c : Thread nD τ).loc main_arg0)
    ∧ s.mem ((c : Thread nD τ).loc main_v1) = outOf m c
    ∧ ∀ sm : SemLoc sig, sm.isScoped .tc = false → s.sem ((c.tc : Thread nD τ), sm) = 0

theorem reads (c : Dev nD) (s' : Phys nD τ sig (Elt F)) :
    iprop(result m c ∗ emp ∗ SI s') ⊢ |={Set.univ}=> iprop(⌜Reads m c s'.mem⌝ ∗ SI s' : sProp 𝕄) := by
  unfold result
  iintro ⟨⟨Hb, Hx, Ho⟩, -, HSI⟩
  icombine HSI Hx gives %hx
  icombine HSI Ho gives %ho
  imod (Pipeline.unscopedSems0_read (X := semVal (barCell c) 0) (c := c) (by rw [lasting_sems]; exact fupd_intro) s') $$ [Hb HSI] with ⟨%hs, HSI⟩
  · isplitl [Hb] <;> iassumption
  imodintro
  isplitr; · ipureintro; exact ⟨funext fun i => hx i (Finset.mem_univ i), funext fun i => ho i (Finset.mem_univ i), hs⟩
  iexact HSI

set_option maxRecDepth 8000 in
/-- From any memory with the semaphores at zero, every execution ends, with each device's argument as it was, its result
    at `outOf`, and every semaphore at zero. -/
theorem run_main :
    θ_run defs (onTc (τ := τ) (main (F := F))) (s₀ m ρ) fun r =>
      (∀ c : Dev nD, r.2.mem ((c : Thread nD τ).loc main_arg0) = m ((c : Thread nD τ).loc main_arg0)
        ∧ r.2.mem ((c : Thread nD τ).loc main_v1) = outOf m c) ∧ r.2.sem = fun _ => 0 :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := fund_launch m) (hglob := glob m)
    (hA := fun _ w => w.elim0) (hpf := fun _ k => k.elim0)
    (X := start m) (Y := result m) (Z := fun _ => iprop(emp))
    (hX := start_intro m ρ) (hin := first_intro m) (hout := last_elim m)
    (QY := Reads m) (hY := reads m)
    (hQ := fun s h hs => ⟨fun c => ⟨(h c).2.2.1, (h c).2.2.2.1⟩, sem_eq_zero hs fun c => (h c).2.2.2.2⟩)

end Cert.Transpose

end
-- ==== Proof.Value.lean ====
/-
# The result is the reference's

The whole argument has four row blocks, the device at place `z` of a group holding block `z`; the whole result has four
column blocks, that device ending with block `z`. What the run leaves on a device is that block of the whole argument
rounded: its row piece `r` comes from the device at place `r`.
-/
module

public import proofs.«01_k».proof.Proof.Launch
public import Idealize.ShloMosaic.Lib.Layout

@[expose] public section

noncomputable section

namespace Cert.Transpose

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ)

/-- The whole arrays' shape. -/
abbrev W : Shape := ⟨2, ![8192, 2048]⟩

/-- The block of the argument, and of the result, that device `c` holds. -/
abbrev argBlk (c : Dev nD) := Layout.meshBlock (r := 2) [2, 2, 4] ![[2], []] c
abbrev resBlk (c : Dev nD) := Layout.meshBlock (r := 2) [2, 2, 4] ![[], [2]] c

theorem argBlk_row (c : Dev nD) : (argBlk c 0).val = (zc c).val := by revert c; decide
theorem argBlk_col (c : Dev nD) : (argBlk c 1).val = 0 := by revert c; decide
theorem resBlk_row (c : Dev nD) : (resBlk c 0).val = 0 := by revert c; decide
theorem resBlk_col (c : Dev nD) : (resBlk c 1).val = (zc c).val := by revert c; decide
theorem zc_mate (c : Dev nD) (r : Fin 4) : zc (mate c r) = r := by revert c r; decide

theorem argFits : Layout.TilesN ⟨2, ![2048, 2048]⟩ W (fun b => Layout.cutSize [2, 2, 4] ((![[2], []] : Fin 2 → List Nat) b)) := by decide
theorem resFits : Layout.TilesN ⟨2, ![8192, 512]⟩ W (fun b => Layout.cutSize [2, 2, 4] ((![[], [2]] : Fin 2 → List Nat) b)) := by decide

/-- An element of column piece `zc c` at place `r` of the argument and the same element of row piece `r` of the result of
    `c` are one element of the whole. -/
theorem same_place (c : Dev nD) (i : S8192x512.Idx) :
    argFits.idx (argBlk (mate c (rowOf i))) ((xR (zc c)).emb (inRow i)) = resFits.idx (resBlk c) i := by
  have hz := argBlk_row (mate c (rowOf i))
  rw [zc_mate] at hz
  have hc := argBlk_col (mate c (rowOf i))
  have hr := resBlk_row c
  have hs := resBlk_col c
  funext b
  match b with
  | ⟨0, _⟩ =>
    refine Fin.ext ?_
    show (argBlk (mate c (rowOf i)) 0).val * 2048 + (0 + 1 * ((i 0).val % 2048)) = (resBlk c 0).val * 8192 + (i 0).val
    have hrow : (rowOf i).val = (i 0).val / 2048 := rfl
    omega
  | ⟨1, _⟩ =>
    refine Fin.ext ?_
    show (argBlk (mate c (rowOf i)) 1).val * 2048 + (512 * (zc c).val + 1 * (i 1).val) = (resBlk c 1).val * 512 + (i 1).val
    omega

/-- When the devices hold the blocks of the whole argument `X`, the run leaves the blocks of `X` rounded. -/
theorem out_is_block (X : FVec F W .f32)
    (hX : ∀ c : Dev nD, m ((c : Thread nD τ).loc main_arg0) = Layout.blockN ⟨2, ![2048, 2048]⟩ W (argBlk c) X) (c : Dev nD) :
    outOf m c = Layout.blockN ⟨2, ![8192, 512]⟩ W (resBlk c) (truncf .bf16 X bitsLt_bf16_f32) := by
  funext i
  show truncf .bf16 (xPiece m (mate c (rowOf i)) (zc c)) bitsLt_bf16_f32 (inRow i) = truncf .bf16 X bitsLt_bf16_f32 (resFits.idx (resBlk c) i)
  rw [← same_place]
  have h : xPiece m (mate c (rowOf i)) (zc c) (inRow i) = X (argFits.idx (argBlk (mate c (rowOf i))) ((xR (zc c)).emb (inRow i))) :=
    congrFun (hX (mate c (rowOf i))) ((xR (zc c)).emb (inRow i))
  exact congrArg (fun y => FloatOps.truncf .bf16 bitsLt_bf16_f32 y) h

end Cert.Transpose

end
-- ==== Proof.lean ====
/-
# The certificate

The run of the program (`Cert.Transpose.run_main`) holds for any float values. The two frames read it at the machine's
floats and at the extended reals; so do the two value claims, which set its result beside the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.KernelIdeal.defs _ _).mono (fun _ h => ⟨fun c => (h.1 c).1, h.2⟩) (Cert.Transpose.run_main (F := Bits) m ρ)

theorem frame_kernelIdeal : Cert.quiescent_KernelIdeal := fun m ρ _ =>
  (θ_run Cert.KernelIdeal.defs _ _).mono (fun _ h => ⟨fun c => (h.1 c).1, h.2⟩) (Cert.Transpose.run_main (F := Ideal) m ρ)

/-- The reference has no semaphore at all. -/
theorem frame_referenceIdeal : Cert.quiescent_ReferenceIdeal := fun m ρ _ =>
  (θ_run Cert.ReferenceIdeal.defs _ _).mono
    (fun _ h => ⟨fun c => (h c).2, funext fun g => by
      obtain ⟨_, sm⟩ := g
      cases sm with
      | reg s => exact s.elim0
      | dma s => exact s.elim0⟩)
    (Cert.ReferenceIdeal.Value.run (F := Ideal) m ρ)

theorem frame_reference : Cert.quiescent_Reference := fun m ρ _ =>
  (θ_run Cert.Reference.defs _ _).mono
    (fun _ h => ⟨fun c => (h c).2, funext fun g => by
      obtain ⟨_, sm⟩ := g
      cases sm with
      | reg s => exact s.elim0
      | dma s => exact s.elim0⟩)
    (Cert.Reference.Value.run (F := Bits) m ρ)

/-- Over the extended reals every device ends with its block of the reference's result. -/
theorem value : Cert.algebraic_KernelIdeal_ReferenceIdeal := fun m ρ m' ρ' _ hm =>
  ⟨_,
    (θ_run Cert.KernelIdeal.defs _ _).mono
      (fun _ h c => ⟨((h.1 c).2).trans (Cert.Transpose.out_is_block m _ hm c), (h.1 c).1⟩)
      (Cert.Transpose.run_main (F := Ideal) m ρ),
    (θ_run Cert.ReferenceIdeal.defs _ _).mono (fun _ h => h 0) (Cert.ReferenceIdeal.Value.run (F := Ideal) m' ρ')⟩

/-- And so it does word for word at the machine's floats. -/
theorem words : Cert.bitexact_Kernel_Reference := fun m ρ m' ρ' _ hm =>
  ⟨_,
    (θ_run Cert.KernelIdeal.defs _ _).mono
      (fun _ h c => ⟨((h.1 c).2).trans (Cert.Transpose.out_is_block m _ hm c), (h.1 c).1⟩)
      (Cert.Transpose.run_main (F := Bits) m ρ),
    (θ_run Cert.Reference.defs _ _).mono (fun _ h => h 0) (Cert.Reference.Value.run (F := Bits) m' ρ')⟩

theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, value, words⟩

end Cert.Proof

end
